-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_adjacency_and_finite [hPre_adjacency_and_finite : Cert.Pre_adjacency_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_adjacency_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_adjacency_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_adjacency_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adjacency_and_finite [hPre_adjacency_and_finite : Cert.Pre_adjacency_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adjacency_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_adjacency_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_adjacency_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_adjacency_and_finite [hKernelIdeal : Cert.KernelIdeal.Facts] [hPre_adjacency_and_finite : Cert.Pre_adjacency_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_adjacency_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_adjacency_and_finite [hReferenceIdeal : Cert.ReferenceIdeal.Facts] [hPre_adjacency_and_finite : Cert.Pre_adjacency_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adjacency_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_adjacency_and_finite [hKernelIdeal : Cert.KernelIdeal.Facts] [hReferenceIdeal : Cert.ReferenceIdeal.Facts] [hPre_adjacency_and_finite : Cert.Pre_adjacency_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_adjacency_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_adjacency_and_finite : Cert.Pre_adjacency_and_finite.Facts),
    quiescent_Kernel (hKernel := hKernel)
    ∧ quiescent_KernelIdeal (hKernelIdeal := hKernelIdeal)
    ∧ quiescent_KernelIdeal_pre_adjacency_and_finite (hKernelIdeal := hKernelIdeal) (hPre_adjacency_and_finite := hPre_adjacency_and_finite)
    ∧ quiescent_ReferenceIdeal (hReferenceIdeal := hReferenceIdeal)
    ∧ quiescent_ReferenceIdeal_pre_adjacency_and_finite (hReferenceIdeal := hReferenceIdeal) (hPre_adjacency_and_finite := hPre_adjacency_and_finite)
    ∧ preserves_Kernel_KernelIdeal
    ∧ algebraic_KernelIdeal_ReferenceIdeal_pre_adjacency_and_finite (hKernelIdeal := hKernelIdeal) (hReferenceIdeal := hReferenceIdeal) (hPre_adjacency_and_finite := hPre_adjacency_and_finite)
-- ==== Pre_adjacency_and_finite.lean ====
abbrev S64x32x32 : Shape := ⟨3, ![64, 32, 32]⟩
abbrev S64x32x128 : Shape := ⟨3, ![64, 32, 128]⟩
abbrev S64x32x32x16 : Shape := ⟨4, ![64, 32, 32, 16]⟩
abbrev S33x144x128 : Shape := ⟨3, ![33, 144, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S_ : Shape := ⟨0, ![]⟩

class Facts : Prop where
  bcast_S_S64x32x32 : S_.BroadcastsInDim S64x32x32 (![] : Fin 0 → Fin S64x32x32.rank)
  bcast_S_S64x32x128 : S_.BroadcastsInDim S64x32x128 (![] : Fin 0 → Fin S64x32x128.rank)
  bcast_S_S128x128 : S_.BroadcastsInDim S128x128 (![] : Fin 0 → Fin S128x128.rank)

variable [Facts]

def fn {F : FTy → Type} [FloatOps F] (main_arg0 : FVec F S64x32x32 .f32) (main_arg1 : FVec F S64x32x128 .f32) (main_arg2 : FVec F S64x32x32x16 .f32) (main_arg3 : FVec F S33x144x128 .f32) (main_arg4 : FVec F S33x144x128 .f32) (main_arg5 : FVec F S33x144x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128 .f32) (main_arg12 : FVec F S128x256 .f32) (main_arg13 : FVec F S256 .f32) (main_arg14 : FVec F S256x128 .f32) (main_arg15 : FVec F S128 .f32) (main_arg16 : FVec F S128x12 .f32) (main_arg17 : FVec F S12 .f32) : IVec S64x32x32 1 × IVec S64x32x128 1 × IVec S128x128 1 :=
  let main_cst : FVec F S_ .f32 := constant S_ .f32 0x00000000#32
  let main_v0 : FVec F S64x32x32 .f32 := broadcastInDim S64x32x32 ![] bcast_S_S64x32x32 main_cst
  let main_v1 : IVec S64x32x32 1 := cmpf .oeq main_arg0 main_v0
  let main_cst_0 : FVec F S_ .f32 := constant S_ .f32 0x3F800000#32
  let main_v2 : FVec F S64x32x32 .f32 := broadcastInDim S64x32x32 ![] bcast_S_S64x32x32 main_cst_0
  let main_v3 : IVec S64x32x32 1 := cmpf .oeq main_arg0 main_v2
  let main_v4 : IVec S64x32x32 1 := ori main_v1 main_v3
  let main_v5 : FVec F S64x32x128 .f32 := Host.absf main_arg1
  let main_cst_1 : FVec F S_ .f32 := constant S_ .f32 0x7F800000#32
  let main_v6 : FVec F S64x32x128 .f32 := broadcastInDim S64x32x128 ![] bcast_S_S64x32x128 main_cst_1
  let main_v7 : IVec S64x32x128 1 := cmpf .olt main_v5 main_v6
  let main_v8 : FVec F S128x128 .f32 := Host.absf main_arg6
  let main_cst_2 : FVec F S_ .f32 := constant S_ .f32 0x7F800000#32
  let main_v9 : FVec F S128x128 .f32 := broadcastInDim S128x128 ![] bcast_S_S128x128 main_cst_2
  let main_v10 : IVec S128x128 1 := cmpf .olt main_v8 main_v9
  (main_v4, main_v7, main_v10)
-- ==== Kernel.lean ====
abbrev S64x32x32 : Shape := ⟨3, ![64, 32, 32]⟩
abbrev S64x32x128 : Shape := ⟨3, ![64, 32, 128]⟩
abbrev S64x32x32x16 : Shape := ⟨4, ![64, 32, 32, 16]⟩
abbrev S33x144x128 : Shape := ⟨3, ![33, 144, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S2048x32 : Shape := ⟨2, ![2048, 32]⟩
abbrev S2048x512 : Shape := ⟨2, ![2048, 512]⟩
abbrev S2048x128 : Shape := ⟨2, ![2048, 128]⟩
abbrev S1x128 : Shape := ⟨2, ![1, 128]⟩
abbrev S1x256 : Shape := ⟨2, ![1, 256]⟩
abbrev S1x12 : Shape := ⟨2, ![1, 12]⟩
abbrev S64x12 : Shape := ⟨2, ![64, 12]⟩
abbrev S2048x256 : Shape := ⟨2, ![2048, 256]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S32x256 : Shape := ⟨2, ![32, 256]⟩
abbrev S256x256 : Shape := ⟨2, ![256, 256]⟩
abbrev S256x32 : Shape := ⟨2, ![256, 32]⟩
abbrev S32x512 : Shape := ⟨2, ![32, 512]⟩
abbrev S512x16 : Shape := ⟨2, ![512, 16]⟩
abbrev S2048x16 : Shape := ⟨2, ![2048, 16]⟩
abbrev S16x128 : Shape := ⟨2, ![16, 128]⟩
abbrev S64x128 : Shape := ⟨2, ![64, 128]⟩
abbrev S2048x2304 : Shape := ⟨2, ![2048, 2304]⟩
abbrev S1x128x128 : Shape := ⟨3, ![1, 128, 128]⟩
abbrev S1x16x128 : Shape := ⟨3, ![1, 16, 128]⟩
abbrev S2304x128 : Shape := ⟨2, ![2304, 128]⟩
abbrev S512x128 : Shape := ⟨2, ![512, 128]⟩
abbrev S2048x144 : Shape := ⟨2, ![2048, 144]⟩
abbrev S1x144x128 : Shape := ⟨3, ![1, 144, 128]⟩
abbrev S144x128 : Shape := ⟨2, ![144, 128]⟩
abbrev S64 : Shape := ⟨1, ![64]⟩
abbrev S64x1 : Shape := ⟨2, ![64, 1]⟩
abbrev S64x256 : Shape := ⟨2, ![64, 256]⟩

abbrev nBuf : Space → Nat
  | .hbm => 26
  | .vmem => 21
  | .smem => 0
  | _ => 0

abbrev bufTy : (tb : Table) → Fin (tcTables nBuf tb) → BufTy
  | .hbm, ⟨0, _⟩ => ⟨S64x32x32, .f32⟩
  | .hbm, ⟨1, _⟩ => ⟨S64x32x128, .f32⟩
  | .hbm, ⟨2, _⟩ => ⟨S64x32x32x16, .f32⟩
  | .hbm, ⟨3, _⟩ => ⟨S33x144x128, .f32⟩
  | .hbm, ⟨4, _⟩ => ⟨S33x144x128, .f32⟩
  | .hbm, ⟨5, _⟩ => ⟨S33x144x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S128x12, .f32⟩
  | .hbm, ⟨17, _⟩ => ⟨S12, .f32⟩
  | .hbm, ⟨18, _⟩ => ⟨S2048x32, .f32⟩
  | .hbm, ⟨19, _⟩ => ⟨S2048x512, .f32⟩
  | .hbm, ⟨20, _⟩ => ⟨S2048x128, .f32⟩
  | .hbm, ⟨21, _⟩ => ⟨S1x128, .f32⟩
  | .hbm, ⟨22, _⟩ => ⟨S1x256, .f32⟩
  | .hbm, ⟨23, _⟩ => ⟨S1x128, .f32⟩
  | .hbm, ⟨24, _⟩ => ⟨S1x12, .f32⟩
  | .hbm, ⟨25, _⟩ => ⟨S64x12, .f32⟩
  | .local _ .vmem, ⟨0, _⟩ => ⟨S2048x32, .f32⟩
  | .local _ .vmem, ⟨1, _⟩ => ⟨S2048x512, .f32⟩
  | .local _ .vmem, ⟨2, _⟩ => ⟨S2048x128, .f32⟩
  | .local _ .vmem, ⟨3, _⟩ => ⟨S33x144x128, .f32⟩
  | .local _ .vmem, ⟨4, _⟩ => ⟨S33x144x128, .f32⟩
  | .local _ .vmem, ⟨5, _⟩ => ⟨S33x144x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S128x12, .f32⟩
  | .local _ .vmem, ⟨17, _⟩ => ⟨S1x12, .f32⟩
  | .local _ .vmem, ⟨18, _⟩ => ⟨S64x12, .f32⟩
  | .local _ .vmem, ⟨19, _⟩ => ⟨S2048x256, .bf16⟩
  | .local _ .vmem, ⟨20, _⟩ => ⟨S2048x128, .f32⟩
  | _, _ => ⟨S64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_v0 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S2048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S33x144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S33x144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S33x144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x12 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x12 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x12 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S64x32x32 : Shape := ⟨3, ![64, 32, 32]⟩
abbrev S64x32x128 : Shape := ⟨3, ![64, 32, 128]⟩
abbrev S64x32x32x16 : Shape := ⟨4, ![64, 32, 32, 16]⟩
abbrev S33x144x128 : Shape := ⟨3, ![33, 144, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x12 : Shape := ⟨2, ![128, 12]⟩
abbrev S12 : Shape := ⟨1, ![12]⟩
abbrev S_ : Shape := ⟨0, ![]⟩
abbrev S64x32 : Shape := ⟨2, ![64, 32]⟩
abbrev S64x32x16 : Shape := ⟨3, ![64, 32, 16]⟩
abbrev S64x32x144 : Shape := ⟨3, ![64, 32, 144]⟩
abbrev S64x32x1 : Shape := ⟨3, ![64, 32, 1]⟩
abbrev S1 : Shape := ⟨1, ![1]⟩
abbrev S1x1x1 : Shape := ⟨3, ![1, 1, 1]⟩
abbrev S64x32x144x128 : Shape := ⟨4, ![64, 32, 144, 128]⟩
abbrev S64x128 : Shape := ⟨2, ![64, 128]⟩
abbrev S64 : Shape := ⟨1, ![64]⟩
abbrev S64x1 : Shape := ⟨2, ![64, 1]⟩
abbrev S1x128 : Shape := ⟨2, ![1, 128]⟩
abbrev S64x256 : Shape := ⟨2, ![64, 256]⟩
abbrev S1x256 : Shape := ⟨2, ![1, 256]⟩
abbrev S64x12 : Shape := ⟨2, ![64, 12]⟩
abbrev S1x12 : Shape := ⟨2, ![1, 12]⟩

abbrev nBuf : Space → Nat
  | .hbm => 249
  | .vmem => 0
  | .smem => 0
  | _ => 0

abbrev hbmTy0_0 (i : Nat) : BufTy := match i % 128 with
  | 0 => ⟨S64x32x32, .f32⟩
  | 1 => ⟨S64x32x128, .f32⟩
  | 2 => ⟨S64x32x32x16, .f32⟩
  | 3 => ⟨S33x144x128, .f32⟩
  | 4 => ⟨S33x144x128, .f32⟩
  | 5 => ⟨S33x144x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128, .f32⟩
  | 12 => ⟨S128x256, .f32⟩
  | 13 => ⟨S256, .f32⟩
  | 14 => ⟨S256x128, .f32⟩
  | 15 => ⟨S128, .f32⟩
  | 16 => ⟨S128x12, .f32⟩
  | 17 => ⟨S12, .f32⟩
  | 18 => ⟨S_, .f32⟩
  | 19 => ⟨S64x32, .f32⟩
  | 20 => ⟨S64x32, .i32⟩
  | 21 => ⟨S_, .i32⟩
  | 22 => ⟨S_, .i32⟩
  | 23 => ⟨S_, .i32⟩
  | 24 => ⟨S64x32, .i32⟩
  | 25 => ⟨S64x32, .i32⟩
  | 26 => ⟨S_, .i32⟩
  | 27 => ⟨S64x32, .i32⟩
  | 28 => ⟨S64x32, .i32⟩
  | 29 => ⟨S64x32x128, .f32⟩
  | 30 => ⟨S64x32x16, .f32⟩
  | 31 => ⟨S64x32x144, .f32⟩
  | 32 => ⟨S_, .i32⟩
  | 33 => ⟨S64x32, .i32⟩
  | 34 => ⟨S64x32, .i1⟩
  | 35 => ⟨S_, .i32⟩
  | 36 => ⟨S64x32, .i32⟩
  | 37 => ⟨S64x32, .i32⟩
  | 38 => ⟨S64x32, .i32⟩
  | 39 => ⟨S64x32x1, .i32⟩
  | 40 => ⟨S1, .i32⟩
  | 41 => ⟨S_, .i32⟩
  | 42 => ⟨S64x32x1, .i32⟩
  | 43 => ⟨S64x32x1, .i1⟩
  | 44 => ⟨S1x1x1, .i32⟩
  | 45 => ⟨S64x32x1, .i32⟩
  | 46 => ⟨S64x32x1, .i1⟩
  | 47 => ⟨S64x32x1, .i1⟩
  | 48 => ⟨S_, .i1⟩
  | 49 => ⟨S64x32, .i1⟩
  | 50 => ⟨S64x32x144x128, .f32⟩
  | 51 => ⟨S64x32x144x128, .i1⟩
  | 52 => ⟨S_, .f32⟩
  | 53 => ⟨S64x32x144x128, .f32⟩
  | 54 => ⟨S64x32x144x128, .f32⟩
  | 55 => ⟨S64x32x128, .f32⟩
  | 56 => ⟨S64x32x128, .f32⟩
  | 57 => ⟨S64x32x128, .f32⟩
  | 58 => ⟨S_, .f32⟩
  | 59 => ⟨S64x32x128, .f32⟩
  | 60 => ⟨S64x32x128, .f32⟩
  | 61 => ⟨S_, .f32⟩
  | 62 => ⟨S64x32x128, .f32⟩
  | 63 => ⟨S64x32x128, .f32⟩
  | 64 => ⟨S64x32x128, .f32⟩
  | 65 => ⟨S64x32x16, .f32⟩
  | 66 => ⟨S64x32x144, .f32⟩
  | 67 => ⟨S_, .i32⟩
  | 68 => ⟨S64x32, .i32⟩
  | 69 => ⟨S64x32, .i1⟩
  | 70 => ⟨S_, .i32⟩
  | 71 => ⟨S64x32, .i32⟩
  | 72 => ⟨S64x32, .i32⟩
  | 73 => ⟨S64x32, .i32⟩
  | 74 => ⟨S64x32x1, .i32⟩
  | 75 => ⟨S1, .i32⟩
  | 76 => ⟨S_, .i32⟩
  | 77 => ⟨S64x32x1, .i32⟩
  | 78 => ⟨S64x32x1, .i1⟩
  | 79 => ⟨S1x1x1, .i32⟩
  | 80 => ⟨S64x32x1, .i32⟩
  | 81 => ⟨S64x32x1, .i1⟩
  | 82 => ⟨S64x32x1, .i1⟩
  | 83 => ⟨S_, .i1⟩
  | 84 => ⟨S64x32, .i1⟩
  | 85 => ⟨S64x32x144x128, .f32⟩
  | 86 => ⟨S64x32x144x128, .i1⟩
  | 87 => ⟨S_, .f32⟩
  | 88 => ⟨S64x32x144x128, .f32⟩
  | 89 => ⟨S64x32x144x128, .f32⟩
  | 90 => ⟨S64x32x128, .f32⟩
  | 91 => ⟨S64x32x128, .f32⟩
  | 92 => ⟨S64x32x128, .f32⟩
  | 93 => ⟨S_, .f32⟩
  | 94 => ⟨S64x32x128, .f32⟩
  | 95 => ⟨S64x32x128, .f32⟩
  | 96 => ⟨S_, .f32⟩
  | 97 => ⟨S64x32x128, .f32⟩
  | 98 => ⟨S64x32x128, .f32⟩
  | 99 => ⟨S64x32x128, .f32⟩
  | 100 => ⟨S64x32x16, .f32⟩
  | 101 => ⟨S64x32x144, .f32⟩
  | 102 => ⟨S_, .i32⟩
  | 103 => ⟨S64x32, .i32⟩
  | 104 => ⟨S64x32, .i1⟩
  | 105 => ⟨S_, .i32⟩
  | 106 => ⟨S64x32, .i32⟩
  | 107 => ⟨S64x32, .i32⟩
  | 108 => ⟨S64x32, .i32⟩
  | 109 => ⟨S64x32x1, .i32⟩
  | 110 => ⟨S1, .i32⟩
  | 111 => ⟨S_, .i32⟩
  | 112 => ⟨S64x32x1, .i32⟩
  | 113 => ⟨S64x32x1, .i1⟩
  | 114 => ⟨S1x1x1, .i32⟩
  | 115 => ⟨S64x32x1, .i32⟩
  | 116 => ⟨S64x32x1, .i1⟩
  | 117 => ⟨S64x32x1, .i1⟩
  | 118 => ⟨S_, .i1⟩
  | 119 => ⟨S64x32, .i1⟩
  | 120 => ⟨S64x32x144x128, .f32⟩
  | 121 => ⟨S64x32x144x128, .i1⟩
  | 122 => ⟨S_, .f32⟩
  | 123 => ⟨S64x32x144x128, .f32⟩
  | 124 => ⟨S64x32x144x128, .f32⟩
  | 125 => ⟨S64x32x128, .f32⟩
  | 126 => ⟨S64x32x128, .f32⟩
  | 127 => ⟨S64x32x128, .f32⟩
  | _ => ⟨S64x32x32, .f32⟩

abbrev hbmTy0_1 (i : Nat) : BufTy := match i % 128 with
  | 0 => ⟨S_, .f32⟩
  | 1 => ⟨S64x32x128, .f32⟩
  | 2 => ⟨S64x32x128, .f32⟩
  | 3 => ⟨S_, .f32⟩
  | 4 => ⟨S64x32x128, .f32⟩
  | 5 => ⟨S64x32x128, .f32⟩
  | 6 => ⟨S_, .f32⟩
  | 7 => ⟨S64x128, .f32⟩
  | 8 => ⟨S64x32x128, .f32⟩
  | 9 => ⟨S_, .f32⟩
  | 10 => ⟨S64x32, .f32⟩
  | 11 => ⟨S_, .f32⟩
  | 12 => ⟨S64x32, .f32⟩
  | 13 => ⟨S64x32, .i1⟩
  | 14 => ⟨S64x32, .f32⟩
  | 15 => ⟨S64x32x1, .f32⟩
  | 16 => ⟨S64x32x128, .f32⟩
  | 17 => ⟨S64x32x128, .f32⟩
  | 18 => ⟨S_, .f32⟩
  | 19 => ⟨S64x128, .f32⟩
  | 20 => ⟨S64x128, .f32⟩
  | 21 => ⟨S64x32x128, .f32⟩
  | 22 => ⟨S_, .f32⟩
  | 23 => ⟨S64x32, .f32⟩
  | 24 => ⟨S_, .f32⟩
  | 25 => ⟨S64x32, .f32⟩
  | 26 => ⟨S64x32, .i1⟩
  | 27 => ⟨S64x32, .f32⟩
  | 28 => ⟨S64x32x1, .f32⟩
  | 29 => ⟨S64x32x128, .f32⟩
  | 30 => ⟨S64x32x128, .f32⟩
  | 31 => ⟨S_, .f32⟩
  | 32 => ⟨S64x128, .f32⟩
  | 33 => ⟨S64x128, .f32⟩
  | 34 => ⟨S64x32x128, .f32⟩
  | 35 => ⟨S_, .f32⟩
  | 36 => ⟨S64x32, .f32⟩
  | 37 => ⟨S_, .f32⟩
  | 38 => ⟨S64x32, .f32⟩
  | 39 => ⟨S64x32, .i1⟩
  | 40 => ⟨S64x32, .f32⟩
  | 41 => ⟨S64x32x1, .f32⟩
  | 42 => ⟨S64x32x128, .f32⟩
  | 43 => ⟨S64x32x128, .f32⟩
  | 44 => ⟨S_, .f32⟩
  | 45 => ⟨S64x128, .f32⟩
  | 46 => ⟨S64x128, .f32⟩
  | 47 => ⟨S64x32x128, .f32⟩
  | 48 => ⟨S_, .f32⟩
  | 49 => ⟨S64x32, .f32⟩
  | 50 => ⟨S_, .f32⟩
  | 51 => ⟨S64x32, .f32⟩
  | 52 => ⟨S64x32, .i1⟩
  | 53 => ⟨S64x32, .f32⟩
  | 54 => ⟨S64x32x1, .f32⟩
  | 55 => ⟨S64x32x128, .f32⟩
  | 56 => ⟨S64x32x128, .f32⟩
  | 57 => ⟨S_, .f32⟩
  | 58 => ⟨S64x128, .f32⟩
  | 59 => ⟨S64x128, .f32⟩
  | 60 => ⟨S_, .f32⟩
  | 61 => ⟨S64, .f32⟩
  | 62 => ⟨S_, .f32⟩
  | 63 => ⟨S64, .f32⟩
  | 64 => ⟨S64, .f32⟩
  | 65 => ⟨S64x1, .f32⟩
  | 66 => ⟨S64x128, .f32⟩
  | 67 => ⟨S64x128, .f32⟩
  | 68 => ⟨S64x128, .f32⟩
  | 69 => ⟨S_, .f32⟩
  | 70 => ⟨S64, .f32⟩
  | 71 => ⟨S64x1, .f32⟩
  | 72 => ⟨S64x128, .f32⟩
  | 73 => ⟨S64x128, .f32⟩
  | 74 => ⟨S64x128, .f32⟩
  | 75 => ⟨S1x128, .f32⟩
  | 76 => ⟨S64x128, .f32⟩
  | 77 => ⟨S64x128, .f32⟩
  | 78 => ⟨S_, .f32⟩
  | 79 => ⟨S64x128, .f32⟩
  | 80 => ⟨S64x128, .f32⟩
  | 81 => ⟨S64x256, .f32⟩
  | 82 => ⟨S1x256, .f32⟩
  | 83 => ⟨S64x256, .f32⟩
  | 84 => ⟨S64x256, .f32⟩
  | 85 => ⟨S_, .f32⟩
  | 86 => ⟨S64x256, .f32⟩
  | 87 => ⟨S64x256, .f32⟩
  | 88 => ⟨S64x128, .f32⟩
  | 89 => ⟨S1x128, .f32⟩
  | 90 => ⟨S64x128, .f32⟩
  | 91 => ⟨S64x128, .f32⟩
  | 92 => ⟨S_, .f32⟩
  | 93 => ⟨S64x128, .f32⟩
  | 94 => ⟨S64x128, .f32⟩
  | 95 => ⟨S64x12, .f32⟩
  | 96 => ⟨S1x12, .f32⟩
  | 97 => ⟨S64x12, .f32⟩
  | 98 => ⟨S64x12, .f32⟩
  | 99 => ⟨S64x12, .f32⟩
  | 100 => ⟨S64x12, .f32⟩
  | 101 => ⟨S_, .f32⟩
  | 102 => ⟨S64x12, .f32⟩
  | 103 => ⟨S64x12, .f32⟩
  | 104 => ⟨S_, .f32⟩
  | 105 => ⟨S64x12, .f32⟩
  | 106 => ⟨S64x12, .f32⟩
  | 107 => ⟨S_, .f32⟩
  | 108 => ⟨S64, .f32⟩
  | 109 => ⟨S_, .f32⟩
  | 110 => ⟨S64, .f32⟩
  | 111 => ⟨S64, .f32⟩
  | 112 => ⟨S64x1, .f32⟩
  | 113 => ⟨S64x12, .f32⟩
  | 114 => ⟨S64x12, .f32⟩
  | 115 => ⟨S64x12, .f32⟩
  | 116 => ⟨S_, .f32⟩
  | 117 => ⟨S64, .f32⟩
  | 118 => ⟨S64x1, .f32⟩
  | 119 => ⟨S64x12, .f32⟩
  | 120 => ⟨S64x12, .f32⟩
  | _ => ⟨S64x32x32, .f32⟩

abbrev hbmTy (i : Nat) : BufTy := match i / 128 with
  | 0 => hbmTy0_0 i
  | 1 => hbmTy0_1 i
  | _ => ⟨S64x32x32, .f32⟩

abbrev bufTy : (tb : Table) → Fin (tcTables nBuf tb) → BufTy
  | .hbm, ⟨i, _⟩ => hbmTy i
  | _, _ => ⟨S64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_1 : Ref sig .tc := ⟨.hbm, 58, rfl⟩
abbrev main_v10 : Ref sig .tc := ⟨.hbm, 59, rfl⟩
abbrev main_v11 : Ref sig .tc := ⟨.hbm, 60, rfl⟩
abbrev main_cst_2 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_cst_3 : Ref sig .tc := ⟨.hbm, 93, rfl⟩
abbrev main_v21 : Ref sig .tc := ⟨.hbm, 94, rfl⟩
abbrev main_v22 : Ref sig .tc := ⟨.hbm, 95, rfl⟩
abbrev main_cst_4 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_cst_5 : Ref sig .tc := ⟨.hbm, 128, rfl⟩
abbrev main_v32 : Ref sig .tc := ⟨.hbm, 129, rfl⟩
abbrev main_v33 : Ref sig .tc := ⟨.hbm, 130, rfl⟩
abbrev main_cst_6 : Ref sig .tc := ⟨.hbm, 131, rfl⟩
abbrev main_v34 : Ref sig .tc := ⟨.hbm, 132, rfl⟩
abbrev main_v35 : Ref sig .tc := ⟨.hbm, 133, rfl⟩
abbrev main_cst_7 : Ref sig .tc := ⟨.hbm, 134, rfl⟩
abbrev main_v36 : Ref sig .tc := ⟨.hbm, 135, rfl⟩
abbrev main_v37 : Ref sig .tc := ⟨.hbm, 136, rfl⟩
abbrev main_cst_8 : Ref sig .tc := ⟨.hbm, 137, rfl⟩
abbrev main_v38 : Ref sig .tc := ⟨.hbm, 138, rfl⟩
abbrev main_cst_9 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_cst_10 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_cst_11 : Ref sig .tc := ⟨.hbm, 150, rfl⟩
abbrev main_v48 : Ref sig .tc := ⟨.hbm, 151, rfl⟩
abbrev main_cst_12 : Ref sig .tc := ⟨.hbm, 152, rfl⟩
abbrev main_v49 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_v53 : Ref sig .tc := ⟨.hbm, 157, rfl⟩
abbrev main_v54 : Ref sig .tc := ⟨.hbm, 158, rfl⟩
abbrev main_cst_13 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_cst_14 : Ref sig .tc := ⟨.hbm, 163, rfl⟩
abbrev main_v58 : Ref sig .tc := ⟨.hbm, 164, rfl⟩
abbrev main_cst_15 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_cst_16 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_cst_17 : Ref sig .tc := ⟨.hbm, 176, rfl⟩
abbrev main_v68 : Ref sig .tc := ⟨.hbm, 177, rfl⟩
abbrev main_cst_18 : Ref sig .tc := ⟨.hbm, 178, rfl⟩
abbrev main_v69 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_cst_19 : Ref sig .tc := ⟨.hbm, 185, rfl⟩
abbrev main_v75 : Ref sig .tc := ⟨.hbm, 186, rfl⟩
abbrev main_v76 : Ref sig .tc := ⟨.hbm, 187, rfl⟩
abbrev main_cst_20 : Ref sig .tc := ⟨.hbm, 188, rfl⟩
abbrev main_v77 : Ref sig .tc := ⟨.hbm, 189, rfl⟩
abbrev main_cst_21 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_cst_22 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_call4_cst : Ref sig .tc := ⟨.hbm, 206, rfl⟩
abbrev main_call4_v0 : Ref sig .tc := ⟨.hbm, 207, rfl⟩
abbrev main_v92 : Ref sig .tc := ⟨.hbm, 208, rfl⟩
abbrev main_v93 : Ref sig .tc := ⟨.hbm, 209, rfl⟩
abbrev main_v94 : Ref sig .tc := ⟨.hbm, 210, rfl⟩
abbrev main_v95 : Ref sig .tc := ⟨.hbm, 211, rfl⟩
abbrev main_v96 : Ref sig .tc := ⟨.hbm, 212, rfl⟩
abbrev main_call5_cst : Ref sig .tc := ⟨.hbm, 213, rfl⟩
abbrev main_call5_v0 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_call6_cst : Ref sig .tc := ⟨.hbm, 220, rfl⟩
abbrev main_call6_v0 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_cst_23 : Ref sig .tc := ⟨.hbm, 229, rfl⟩
abbrev main_v109 : Ref sig .tc := ⟨.hbm, 230, rfl⟩
abbrev main_v110 : Ref sig .tc := ⟨.hbm, 231, rfl⟩
abbrev main_cst_24 : Ref sig .tc := ⟨.hbm, 232, rfl⟩
abbrev main_v111 : Ref sig .tc := ⟨.hbm, 233, rfl⟩
abbrev main_v112 : Ref sig .tc := ⟨.hbm, 234, rfl⟩
abbrev main_cst_25 : Ref sig .tc := ⟨.hbm, 235, rfl⟩
abbrev main_v113 : Ref sig .tc := ⟨.hbm, 236, rfl⟩
abbrev main_cst_26 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_cst_27 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩

abbrev nD : Nat := 1
abbrev τ : Topo := Topo.v7x

variable {F : FTy → Type} [FloatOps F]
-- ==== Proof.KernelRun.lean ====
/-
  The contents that the run of `Kernel`'s body leaves in the result's staging buffer, as the named stages.
-/
module

public import proofs.«01_k».proof.Proof.KernelReads

@[expose] public section

set_option maxRecDepth 20000

noncomputable section

namespace Cert.Kernel.Hand

open Cert.Kernel Cert.Kernel.Gen
open Idealize.ShloMosaic Idealize.ShloMosaic.TcCoe Idealize.ShloMosaic.Tactic

variable {F : FTy → Type} [FloatOps F]

/-- What the body leaves is the stages' result at the operands, and depends on nothing else. -/
theorem run_result (c : Dev nD) (E : Set ℕ) (f0 : Bf (F := F) c (Memref.whole cc0_stg0_0)) (f1 : Bf (F := F) c (Memref.whole cc0_stg1_0)) (f2 : Bf (F := F) c (Memref.whole cc0_stg2_0)) (f3 : Bf (F := F) c (Memref.whole cc0_stg3_0)) (f4 : Bf (F := F) c (Memref.whole cc0_stg4_0)) (f5 : Bf (F := F) c (Memref.whole cc0_stg5_0)) (f6 : Bf (F := F) c (Memref.whole cc0_stg6_0)) (f7 : Bf (F := F) c (Memref.whole cc0_stg7_0)) (f8 : Bf (F := F) c (Memref.whole cc0_stg8_0)) (f9 : Bf (F := F) c (Memref.whole cc0_stg9_0)) (f10 : Bf (F := F) c (Memref.whole cc0_stg10_0)) (f11 : Bf (F := F) c (Memref.whole cc0_stg11_0)) (f12 : Bf (F := F) c (Memref.whole cc0_stg12_0)) (f13 : Bf (F := F) c (Memref.whole cc0_stg13_0)) (f14 : Bf (F := F) c (Memref.whole cc0_stg14_0)) (f15 : Bf (F := F) c (Memref.whole cc0_stg15_0)) (f16 : Bf (F := F) c (Memref.whole cc0_stg16_0)) (f17 : Bf (F := F) c (Memref.whole cc0_stg17_0)) (f18 : Bf (F := F) c (Memref.whole cc0_stg18_0)) (f19 : Bf (F := F) c (Memref.whole cc0_scratch0)) (f20 : Bf (F := F) c (Memref.whole cc0_scratch1)) :
    (kernelRun c E f0 f1 f2 f3 f4 f5 f6 f7 f8 f9 f10 f11 f12 f13 f14 f15 f16 f17 f18 f19 f20).1 = result f0 f1 f2 f3 f4 f5 f6 f7 f8 f9 f10 f11 f12 f13 f14 f15 f16 f17 := by
  unfold kernelRun
  change View.read (Elt F) (Memref.whole cc0_stg18_0).view ((Memref.whole cc0_stg18_0).view.writes (Elt F) _ _) = _
  refine (View.read_writes_full (Memref.whole cc0_stg18_0).view _ _ _ _).trans ?_
  delta kernelRun.sl.v1086
  delta kernelRun.sl.v1050 kernelRun.sl.v864
  delta kernelRun.sl.v855 kernelRun.sl.v851 kernelRun.sl.v695
  delta kernelRun.sl.v526
  rw [read_3_7, read_2_7, read_1_7]
  rfl

end Cert.Kernel.Hand

end
-- ==== Proof.KernelIdealBody.lean ====
/-
  The kernel body of `KernelIdeal`, run once: from every input's staging buffer and both scratch buffers held whole, at any contents,
  the body runs to its return, leaving the inputs as they were, the scratch buffers at something, and the result's
  staging buffer at contents read off the run (`out`).
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The inputs' staging buffers, each held whole at the contents given. -/
abbrev inputs (c : Dev nD) (f0 : Bf (F := F) c (Memref.whole cc0_stg0_0)) (f1 : Bf (F := F) c (Memref.whole cc0_stg1_0)) (f2 : Bf (F := F) c (Memref.whole cc0_stg2_0)) (f3 : Bf (F := F) c (Memref.whole cc0_stg3_0)) (f4 : Bf (F := F) c (Memref.whole cc0_stg4_0)) (f5 : Bf (F := F) c (Memref.whole cc0_stg5_0)) (f6 : Bf (F := F) c (Memref.whole cc0_stg6_0)) (f7 : Bf (F := F) c (Memref.whole cc0_stg7_0)) (f8 : Bf (F := F) c (Memref.whole cc0_stg8_0)) (f9 : Bf (F := F) c (Memref.whole cc0_stg9_0)) (f10 : Bf (F := F) c (Memref.whole cc0_stg10_0)) (f11 : Bf (F := F) c (Memref.whole cc0_stg11_0)) (f12 : Bf (F := F) c (Memref.whole cc0_stg12_0)) (f13 : Bf (F := F) c (Memref.whole cc0_stg13_0)) (f14 : Bf (F := F) c (Memref.whole cc0_stg14_0)) (f15 : Bf (F := F) c (Memref.whole cc0_stg15_0)) (f16 : Bf (F := F) c (Memref.whole cc0_stg16_0)) (f17 : Bf (F := F) c (Memref.whole cc0_stg17_0)) : sProp 𝕄 :=
  iprop(pt c (Memref.whole cc0_stg0_0) f0 ∗ pt c (Memref.whole cc0_stg1_0) f1 ∗ pt c (Memref.whole cc0_stg2_0) f2 ∗ pt c (Memref.whole cc0_stg3_0) f3 ∗ pt c (Memref.whole cc0_stg4_0) f4 ∗ pt c (Memref.whole cc0_stg5_0) f5 ∗ pt c (Memref.whole cc0_stg6_0) f6 ∗ pt c (Memref.whole cc0_stg7_0) f7 ∗ pt c (Memref.whole cc0_stg8_0) f8 ∗ pt c (Memref.whole cc0_stg9_0) f9 ∗ pt c (Memref.whole cc0_stg10_0) f10 ∗ pt c (Memref.whole cc0_stg11_0) f11 ∗ pt c (Memref.whole cc0_stg12_0) f12 ∗ pt c (Memref.whole cc0_stg13_0) f13 ∗ pt c (Memref.whole cc0_stg14_0) f14 ∗ pt c (Memref.whole cc0_stg15_0) f15 ∗ pt c (Memref.whole cc0_stg16_0) f16 ∗ pt c (Memref.whole cc0_stg17_0) f17)

set_option sl_exec.resultNames true in
/-- The body's run, with the contents it leaves in the result's staging buffer as the witness. -/
def kernelRun (c : Dev nD) (E : Set ℕ) (f0 : Bf (F := F) c (Memref.whole cc0_stg0_0)) (f1 : Bf (F := F) c (Memref.whole cc0_stg1_0)) (f2 : Bf (F := F) c (Memref.whole cc0_stg2_0)) (f3 : Bf (F := F) c (Memref.whole cc0_stg3_0)) (f4 : Bf (F := F) c (Memref.whole cc0_stg4_0)) (f5 : Bf (F := F) c (Memref.whole cc0_stg5_0)) (f6 : Bf (F := F) c (Memref.whole cc0_stg6_0)) (f7 : Bf (F := F) c (Memref.whole cc0_stg7_0)) (f8 : Bf (F := F) c (Memref.whole cc0_stg8_0)) (f9 : Bf (F := F) c (Memref.whole cc0_stg9_0)) (f10 : Bf (F := F) c (Memref.whole cc0_stg10_0)) (f11 : Bf (F := F) c (Memref.whole cc0_stg11_0)) (f12 : Bf (F := F) c (Memref.whole cc0_stg12_0)) (f13 : Bf (F := F) c (Memref.whole cc0_stg13_0)) (f14 : Bf (F := F) c (Memref.whole cc0_stg14_0)) (f15 : Bf (F := F) c (Memref.whole cc0_stg15_0)) (f16 : Bf (F := F) c (Memref.whole cc0_stg16_0)) (f17 : Bf (F := F) c (Memref.whole cc0_stg17_0)) (f18 : Bf (F := F) c (Memref.whole cc0_stg18_0)) (f19 : Bf (F := F) c (Memref.whole cc0_scratch0)) (f20 : Bf (F := F) c (Memref.whole cc0_scratch1)) :
  { L : Bf (F := F) c (Memref.whole cc0_stg18_0) // ∀ K : PUnit → sProp 𝕄,
    iprop(inputs c f0 f1 f2 f3 f4 f5 f6 f7 f8 f9 f10 f11 f12 f13 f14 f15 f16 f17 ∗ pt c (Memref.whole cc0_stg18_0) f18 ∗ pt c (Memref.whole cc0_scratch0) f19 ∗ pt c (Memref.whole cc0_scratch1) f20
      ∗ (iprop(inputs c f0 f1 f2 f3 f4 f5 f6 f7 f8 f9 f10 f11 f12 f13 f14 f15 f16 f17 ∗ pt c (Memref.whole cc0_stg18_0) L ∗ (∃ f, pt c (Memref.whole cc0_scratch0) f) ∗ (∃ f, pt c (Memref.whole cc0_scratch1) f)) -∗ K ⟨⟩))
    ⊢ wp frame (wpE (defs₀ (F := F)) Variants.none c none) E
        (cc0__gnn_kernel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) (Memref.whole cc0_stg15_0) (Memref.isWhole_whole _) (Memref.whole cc0_stg16_0) (Memref.isWhole_whole _) (Memref.whole cc0_stg17_0) (Memref.isWhole_whole _) (Memref.whole cc0_stg18_0) (Memref.isWhole_whole _) (Memref.whole cc0_scratch0) (Memref.isWhole_whole _) (Memref.whole cc0_scratch1) (Memref.isWhole_whole _)) K } := by
  refine ⟨?_, fun K => ?_⟩
  rotate_left
  · simp only [cc0__gnn_kernel_eq_skeleton]; unfold cc0__gnn_kernel_skel inputs
    iintro ⟨⟨H0, H1, H2, H3, H4, H5, H6, H7, H8, H9, H10, H11, H12, H13, H14, H15, H16, H17⟩, H18, H19, H20, Hk⟩
    sl_exec_parts!
    sl_step
    iapply Hk
    isplitl [H0 H1 H2 H3 H4 H5 H6 H7 H8 H9 H10 H11 H12 H13 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    isplitl [H18]; · iexact H18
    isplitl [H19]; · iexists _; iexact H19
    iexists _; iexact H20

end Cert.KernelIdeal.Hand

end
-- ==== Proof.KernelIdealStages.lean ====
/-
  The body of `KernelIdeal` as named stages over the operand arrays: the block-diagonal neighbour sums, the degree masks, the
  accumulation of one layer (the degrees always taken, then the seven conditional additions), and the readout. The three layers
  are one definition at three weight banks.
-/
module

public import proofs.«01_k».proof.Proof.Gen.KernelIdeal.Skeleton
public import Idealize.ShloMosaic.Lib.Pipeline.Value

@[expose] public section

noncomputable section

namespace Cert.KernelIdeal.Hand

open Cert.KernelIdeal Cert.KernelIdeal.Gen
open Idealize.ShloMosaic Idealize.ShloMosaic.TcCoe

variable {F : FTy → Type} [FloatOps F]

/-- A row rectangle of the adjacency array at a multiple of 256 fits. -/
theorem adjRect_ok (k : Fin 8) : ∀ a, (![256 * k.val, 0] : Fin 2 → ℕ) a + S256x32.size a ≤ S2048x32.size a := by
  revert k; decide

/-- A row rectangle of a node array at a multiple of 256 is a slice. -/
theorem nodeSlice_ok (k : Fin 8) : S2048x128.Slices ![256 * k.val, 0] S256x128 := by
  revert k; decide

/-- Degree `d`'s node rows of a weight bank fit. -/
theorem nodeRows_ok (d : Fin 33) : ∀ a, (![d.val, 0, 0] : Fin 3 → ℕ) a + S1x128x128.size a ≤ S33x144x128.size a := by
  revert d; decide

/-- Degree `d`'s edge rows of a weight bank fit. -/
theorem edgeRows_ok (d : Fin 33) : ∀ a, (![d.val, 128, 0] : Fin 3 → ℕ) a + S1x16x128.size a ≤ S33x144x128.size a := by
  revert d; decide

/-- Degree `d`'s rows of a weight bank fit. -/
theorem allRows_ok (d : Fin 33) : ∀ a, (![d.val, 0, 0] : Fin 3 → ℕ) a + S1x144x128.size a ≤ S33x144x128.size a := by
  revert d; decide

/-- A whole matrix, loaded through the rectangle of its own extents. -/
def whole {n₀ n₁ : ℕ} {t : EltTy} (X : Vec F ⟨2, ![n₀, n₁]⟩ t) : Vec F ⟨2, ![n₀, n₁]⟩ t :=
  View.ld X (Rect.unit ![0, 0] ![n₀, n₁] (fun a => by revert a; exact Fin.forall_fin_two.mpr ⟨(Nat.zero_add _).le, (Nat.zero_add _).le⟩))

/-- The load reads the matrix. -/
theorem whole_eq {n₀ n₁ : ℕ} {t : EltTy} (X : Vec F ⟨2, ![n₀, n₁]⟩ t) : whole X = X := by
  unfold whole
  exact View.ld_unit_zero (S := ⟨2, ![n₀, n₁]⟩) (off := ![0, 0]) (by funext a; revert a; exact Fin.forall_fin_two.mpr ⟨rfl, rfl⟩) _ X

/-- Which pairs of positions within 256 lie in the same block of 32. -/
def sameBlock : FVec F S256x256 .bf16 :=
  k0_pay14 (iota .tc S256x256 32 [1] iota_S256x256_d1_w32) k0_pay12 k0_pay13

/-- Rows `256 k …` of the adjacency, spread into a block-diagonal matrix. -/
def adjBlock (g : Vec F S2048x32 .f32) (k : Fin 8) : FVec F S256x256 .bf16 :=
  k0_pay24 k0_pay11 sameBlock (View.ld g (Rect.unit ![256 * k.val, 0] S256x32.size (adjRect_ok k)))

/-- Rows `256 k …` of the neighbour sums of `h`. -/
def sumBlock (g : Vec F S2048x32 .f32) (h : FVec F S2048x128 .f32) (k : Fin 8) : FVec F S256x128 .f32 :=
  matmul dot_S256x256_S256x128_S256x128_1_0_0_1_n_n none (adjBlock g k)
    (extractStridedSlice S256x128 ![256 * k.val, 0] (truncf .bf16 h bitsLt_bf16_f32) (nodeSlice_ok k)) (constant S256x128 .f32 0x00000000#32)

/-- The neighbour sums of `h`, all rows. -/
def nodeSum (g : Vec F S2048x32 .f32) (h : FVec F S2048x128 .f32) : FVec F S2048x128 .bf16 :=
  truncf .bf16 (concatenate S2048x128 0 [⟨S256x128, sumBlock g h 0⟩, ⟨S256x128, sumBlock g h 1⟩, ⟨S256x128, sumBlock g h 2⟩, ⟨S256x128, sumBlock g h 3⟩, ⟨S256x128, sumBlock g h 4⟩, ⟨S256x128, sumBlock g h 5⟩, ⟨S256x128, sumBlock g h 6⟩, ⟨S256x128, sumBlock g h 7⟩]
    concatenates_S256x128_S256x128_S256x128_S256x128_S256x128_S256x128_S256x128_S256x128_S2048x128_d0) bitsLt_bf16_f32

/-- The edge sums. -/
def edgeSum (g : Vec F S2048x32 .f32) (e : Vec F S2048x512 .f32) : FVec F S2048x16 .bf16 :=
  k0_pay27 (k0_pay1 (whole g)) (iota .tc S32x512 32 [1] iota_S32x512_d1_w32) (iota .tc S32x512 32 [0] iota_S32x512_d0_w32) 16#32 k0_pay25 k0_pay26 1#32 (whole e)

/-- Which nodes have the degree of the float word `w`. -/
def degMask (g : Vec F S2048x32 .f32) (w : BitVec 32) : FVec F S2048x1 .bf16 :=
  truncf .bf16 (sitofp .f32 (extui 32 (cmpf .oeq (k0_pay2 (whole g)) (broadcast S2048x1 (Scalar.ofBits .f32 w))) natLt_1_32)) bitsLt_bf16_f32

/-- The neighbour sums kept at the nodes of one degree. -/
def nodePiece (g : Vec F S2048x32 .f32) (s : FVec F S2048x128 .bf16) (w : BitVec 32) : FVec F S2048x128 .bf16 :=
  mulf s (broadcastTo S2048x128 (degMask g w) broadcasts_S2048x1_S2048x128)

/-- The pattern `lane / 16` along 128 lanes. -/
def lanePat : FVec F S1x128 .f32 :=
  k0_pay68 (iota .tc S1x128 32 [1] iota_S1x128_d1_w32) 16#32 k0_pay66 k0_pay67 1#32 0#32

/-- The edge sums repeated eight times along the lanes, each repetition kept at the nodes of its own degree, the degrees counted
    from the float word `w`. -/
def edgePiece (g : Vec F S2048x32 .f32) (s : FVec F S2048x16 .bf16) (w : BitVec 32) : FVec F S2048x128 .bf16 :=
  mulf (k0_pay69 s k0_pay65)
    (truncf .bf16 (sitofp .f32 (extui 32 (cmpf .oeq
      (broadcastTo S2048x128 (subf (k0_pay2 (whole g)) (broadcast S2048x1 (Scalar.ofBits .f32 w))) broadcasts_S2048x1_S2048x128)
      (broadcastTo S2048x128 lanePat broadcasts_S1x128_S2048x128)) natLt_1_32)) bitsLt_bf16_f32)

/-- The edge sums kept at the nodes of degree 32. -/
def edgeLast (g : Vec F S2048x32 .f32) (s : FVec F S2048x16 .bf16) : FVec F S2048x16 .bf16 :=
  mulf s (broadcastTo S2048x16 (degMask g 0x42000000#32) broadcasts_S2048x1_S2048x16)

/-- Degree `d`'s node rows of a weight bank. -/
def nodeRows (H : Vec F S33x144x128 .f32) (d : Fin 33) : FVec F S128x128 .f32 :=
  shapeCast S128x128 (View.ld H (Rect.unit ![d.val, 0, 0] S1x128x128.size (nodeRows_ok d))) shapeCasts_S1x128x128_S128x128

/-- Degree `d`'s edge rows of a weight bank. -/
def edgeRows (H : Vec F S33x144x128 .f32) (d : Fin 33) : FVec F S16x128 .f32 :=
  shapeCast S16x128 (View.ld H (Rect.unit ![d.val, 128, 0] S1x16x128.size (edgeRows_ok d))) shapeCasts_S1x16x128_S16x128

/-- The masked sums of the degrees 8 to 23, node pieces then edge pieces. -/
def midLhs (g : Vec F S2048x32 .f32) (s : FVec F S2048x128 .bf16) (u : FVec F S2048x16 .bf16) : FVec F S2048x2304 .bf16 :=
  concatenate S2048x2304 1 [⟨S2048x128, nodePiece g s 0x41000000#32⟩, ⟨S2048x128, nodePiece g s 0x41100000#32⟩, ⟨S2048x128, nodePiece g s 0x41200000#32⟩, ⟨S2048x128, nodePiece g s 0x41300000#32⟩, ⟨S2048x128, nodePiece g s 0x41400000#32⟩, ⟨S2048x128, nodePiece g s 0x41500000#32⟩, ⟨S2048x128, nodePiece g s 0x41600000#32⟩, ⟨S2048x128, nodePiece g s 0x41700000#32⟩, ⟨S2048x128, nodePiece g s 0x41800000#32⟩, ⟨S2048x128, nodePiece g s 0x41880000#32⟩, ⟨S2048x128, nodePiece g s 0x41900000#32⟩, ⟨S2048x128, nodePiece g s 0x41980000#32⟩, ⟨S2048x128, nodePiece g s 0x41A00000#32⟩, ⟨S2048x128, nodePiece g s 0x41A80000#32⟩, ⟨S2048x128, nodePiece g s 0x41B00000#32⟩, ⟨S2048x128, nodePiece g s 0x41B80000#32⟩,
    ⟨S2048x128, edgePiece g u 0x41000000#32⟩, ⟨S2048x128, edgePiece g u 0x41800000#32⟩]
    concatenates_S2048x128_S2048x128_S2048x128_S2048x128_S2048x128_S2048x128_S2048x128_S2048x128_S2048x128_S2048x128_S2048x128_S2048x128_S2048x128_S2048x128_S2048x128_S2048x128_S2048x128_S2048x128_S2048x2304_d1

/-- The weights of the degrees 8 to 23, node rows then edge rows. -/
def midRhs (H : Vec F S33x144x128 .f32) : FVec F S2304x128 .bf16 :=
  concatenate S2304x128 0 [
    ⟨S2048x128, truncf .bf16 (concatenate S2048x128 0 [⟨S128x128, nodeRows H 8⟩, ⟨S128x128, nodeRows H 9⟩, ⟨S128x128, nodeRows H 10⟩, ⟨S128x128, nodeRows H 11⟩, ⟨S128x128, nodeRows H 12⟩, ⟨S128x128, nodeRows H 13⟩, ⟨S128x128, nodeRows H 14⟩, ⟨S128x128, nodeRows H 15⟩, ⟨S128x128, nodeRows H 16⟩, ⟨S128x128, nodeRows H 17⟩, ⟨S128x128, nodeRows H 18⟩, ⟨S128x128, nodeRows H 19⟩, ⟨S128x128, nodeRows H 20⟩, ⟨S128x128, nodeRows H 21⟩, ⟨S128x128, nodeRows H 22⟩, ⟨S128x128, nodeRows H 23⟩]
      concatenates_S128x128_S128x128_S128x128_S128x128_S128x128_S128x128_S128x128_S128x128_S128x128_S128x128_S128x128_S128x128_S128x128_S128x128_S128x128_S128x128_S2048x128_d0) bitsLt_bf16_f32⟩,
    ⟨S256x128, truncf .bf16 (concatenate S256x128 0 [⟨S16x128, edgeRows H 8⟩, ⟨S16x128, edgeRows H 9⟩, ⟨S16x128, edgeRows H 10⟩, ⟨S16x128, edgeRows H 11⟩, ⟨S16x128, edgeRows H 12⟩, ⟨S16x128, edgeRows H 13⟩, ⟨S16x128, edgeRows H 14⟩, ⟨S16x128, edgeRows H 15⟩, ⟨S16x128, edgeRows H 16⟩, ⟨S16x128, edgeRows H 17⟩, ⟨S16x128, edgeRows H 18⟩, ⟨S16x128, edgeRows H 19⟩, ⟨S16x128, edgeRows H 20⟩, ⟨S16x128, edgeRows H 21⟩, ⟨S16x128, edgeRows H 22⟩, ⟨S16x128, edgeRows H 23⟩]
      concatenates_S16x128_S16x128_S16x128_S16x128_S16x128_S16x128_S16x128_S16x128_S16x128_S16x128_S16x128_S16x128_S16x128_S16x128_S16x128_S16x128_S256x128_d0) bitsLt_bf16_f32⟩]
    concatenates_S2048x128_S256x128_S2304x128_d0

/-- The layer's accumulator before the conditional additions: the degrees 8 to 23. -/
def accMid (g : Vec F S2048x32 .f32) (s : FVec F S2048x128 .bf16) (u : FVec F S2048x16 .bf16) (H : Vec F S33x144x128 .f32) : FVec F S2048x128 .f32 :=
  shapeCast S2048x128 (matmul dot_S2048x2304_S2304x128_S2048x128_1_0_0_1_n_n none (midLhs g s u) (midRhs H) (constant S2048x128 .f32 0x00000000#32))
    shapeCasts_S2048x128_S2048x128

/-- The masked sums of four degrees side by side, given by their words. -/
def fourLhs (g : Vec F S2048x32 .f32) (s : FVec F S2048x128 .bf16) (w₀ w₁ w₂ w₃ : BitVec 32) : FVec F S2048x512 .bf16 :=
  concatenate S2048x512 1 [⟨S2048x128, nodePiece g s w₀⟩, ⟨S2048x128, nodePiece g s w₁⟩, ⟨S2048x128, nodePiece g s w₂⟩, ⟨S2048x128, nodePiece g s w₃⟩]
    concatenates_S2048x128_S2048x128_S2048x128_S2048x128_S2048x512_d1

/-- The node rows of four degrees, one under the other. -/
def fourRhs (H : Vec F S33x144x128 .f32) (d₀ d₁ d₂ d₃ : Fin 33) : FVec F S512x128 .bf16 :=
  truncf .bf16 (concatenate S512x128 0 [⟨S128x128, nodeRows H d₀⟩, ⟨S128x128, nodeRows H d₁⟩, ⟨S128x128, nodeRows H d₂⟩, ⟨S128x128, nodeRows H d₃⟩]
    concatenates_S128x128_S128x128_S128x128_S128x128_S512x128_d0) bitsLt_bf16_f32

/-- Four degrees' node terms added to the accumulator. -/
def addFour (A : FVec F S2048x128 .f32) (l : FVec F S2048x512 .bf16) (r : FVec F S512x128 .bf16) : FVec F S2048x128 .f32 :=
  shapeCast S2048x128 (addf A (matmul dot_S2048x512_S512x128_S2048x128_1_0_0_1_n_n none l r (constant S2048x128 .f32 0x00000000#32)))
    shapeCasts_S2048x128_S2048x128

/-- The edge rows of eight degrees from `d` on, one under the other. -/
def eightRhs (H : Vec F S33x144x128 .f32) (d₀ d₁ d₂ d₃ d₄ d₅ d₆ d₇ : Fin 33) : FVec F S128x128 .bf16 :=
  truncf .bf16 (concatenate S128x128 0 [⟨S16x128, edgeRows H d₀⟩, ⟨S16x128, edgeRows H d₁⟩, ⟨S16x128, edgeRows H d₂⟩, ⟨S16x128, edgeRows H d₃⟩,
      ⟨S16x128, edgeRows H d₄⟩, ⟨S16x128, edgeRows H d₅⟩, ⟨S16x128, edgeRows H d₆⟩, ⟨S16x128, edgeRows H d₇⟩]
    concatenates_S16x128_S16x128_S16x128_S16x128_S16x128_S16x128_S16x128_S16x128_S128x128_d0) bitsLt_bf16_f32

/-- Eight degrees' edge terms added to the accumulator. -/
def addEight (A : FVec F S2048x128 .f32) (l : FVec F S2048x128 .bf16) (r : FVec F S128x128 .bf16) : FVec F S2048x128 .f32 :=
  shapeCast S2048x128 (addf A (matmul dot_S2048x128_S128x128_S2048x128_1_0_0_1_n_n none l r (constant S2048x128 .f32 0x00000000#32)))
    shapeCasts_S2048x128_S2048x128

/-- The node and edge terms of degree 32 added to the accumulator. -/
def addLast (A : FVec F S2048x128 .f32) (g : Vec F S2048x32 .f32) (s : FVec F S2048x128 .bf16) (u : FVec F S2048x16 .bf16)
    (H : Vec F S33x144x128 .f32) : FVec F S2048x128 .f32 :=
  shapeCast S2048x128 (addf A (matmul dot_S2048x144_S144x128_S2048x128_1_0_0_1_n_n none
    (concatenate S2048x144 1 [⟨S2048x128, nodePiece g s 0x42000000#32⟩, ⟨S2048x16, edgeLast g u⟩] concatenates_S2048x128_S2048x16_S2048x144_d1)
    (truncf .bf16 (shapeCast S144x128 (View.ld H (Rect.unit ![(32 : Fin 33).val, 0, 0] S1x144x128.size (allRows_ok 32))) shapeCasts_S1x144x128_S144x128)
      bitsLt_bf16_f32) (constant S2048x128 .f32 0x00000000#32)))
    shapeCasts_S2048x128_S2048x128

/-- A comparison's bit, as the body branches on it. -/
def flag (b : BitVec 1) : BitVec 1 := Scalar.cmpi .ne (Scalar.extui b) 0#32

/-- The branch on: some node has degree below 4. -/
def below4 (g : Vec F S2048x32 .f32) : BitVec 1 :=
  flag (Scalar.cmpf .olt (k0_pay3 (whole g)) (Scalar.ofBits .f32 0x40800000#32))

/-- The branch on: some node has degree 4 to 7. -/
def in47 (g : Vec F S2048x32 .f32) : BitVec 1 :=
  flag (Scalar.cmpf .ogt (k0_pay7 (whole g)) (Scalar.ofBits .f32 0x00000000#32))

/-- The branch on: some node has degree below 8. -/
def below8 (g : Vec F S2048x32 .f32) : BitVec 1 :=
  flag (Scalar.cmpf .olt (k0_pay3 (whole g)) (Scalar.ofBits .f32 0x41000000#32))

/-- The branch on: some node has degree 24 to 27. -/
def in2427 (g : Vec F S2048x32 .f32) : BitVec 1 :=
  flag (Scalar.cmpf .ogt (k0_pay8 (whole g)) (Scalar.ofBits .f32 0x00000000#32))

/-- The branch on: some node has degree 28 to 31. -/
def in2831 (g : Vec F S2048x32 .f32) : BitVec 1 :=
  flag (Scalar.cmpf .ogt (k0_pay10 (k0_pay9 (whole g))) (Scalar.ofBits .f32 0x00000000#32))

/-- The branch on: some node has degree 24 or more. -/
def above23 (g : Vec F S2048x32 .f32) : BitVec 1 :=
  flag (Scalar.cmpf .oge (k0_pay4 (whole g)) (Scalar.ofBits .f32 0x41C00000#32))

/-- The branch on: some node has degree 32. -/
def is32 (g : Vec F S2048x32 .f32) : BitVec 1 :=
  flag (Scalar.cmpf .oeq (k0_pay4 (whole g)) (Scalar.ofBits .f32 0x42000000#32))

/-- One branch: the addition where the condition holds, the accumulator as it was elsewhere. -/
def when (b : BitVec 1) (x y : FVec F S2048x128 .f32) : FVec F S2048x128 .f32 := if b = 1#1 then x else y

/-- The accumulator after 1 of the conditional additions. -/
def acc1 (g : Vec F S2048x32 .f32) (s : FVec F S2048x128 .bf16) (u : FVec F S2048x16 .bf16) (H : Vec F S33x144x128 .f32) : FVec F S2048x128 .f32 :=
  when (below4 g) (addFour (accMid g s u H) (fourLhs g s 0x00000000#32 0x3F800000#32 0x40000000#32 0x40400000#32) (fourRhs H 0 1 2 3)) (accMid g s u H)

/-- The accumulator after 2 of the conditional additions. -/
def acc2 (g : Vec F S2048x32 .f32) (s : FVec F S2048x128 .bf16) (u : FVec F S2048x16 .bf16) (H : Vec F S33x144x128 .f32) : FVec F S2048x128 .f32 :=
  when (in47 g) (addFour (acc1 g s u H) (fourLhs g s 0x40800000#32 0x40A00000#32 0x40C00000#32 0x40E00000#32) (fourRhs H 4 5 6 7)) (acc1 g s u H)

/-- The accumulator after 3 of the conditional additions. -/
def acc3 (g : Vec F S2048x32 .f32) (s : FVec F S2048x128 .bf16) (u : FVec F S2048x16 .bf16) (H : Vec F S33x144x128 .f32) : FVec F S2048x128 .f32 :=
  when (below8 g) (addEight (acc2 g s u H) (edgePiece g u 0x00000000#32) (eightRhs H 0 1 2 3 4 5 6 7)) (acc2 g s u H)

/-- The accumulator after 4 of the conditional additions. -/
def acc4 (g : Vec F S2048x32 .f32) (s : FVec F S2048x128 .bf16) (u : FVec F S2048x16 .bf16) (H : Vec F S33x144x128 .f32) : FVec F S2048x128 .f32 :=
  when (in2427 g) (addFour (acc3 g s u H) (fourLhs g s 0x41C00000#32 0x41C80000#32 0x41D00000#32 0x41D80000#32) (fourRhs H 24 25 26 27)) (acc3 g s u H)

/-- The accumulator after 5 of the conditional additions. -/
def acc5 (g : Vec F S2048x32 .f32) (s : FVec F S2048x128 .bf16) (u : FVec F S2048x16 .bf16) (H : Vec F S33x144x128 .f32) : FVec F S2048x128 .f32 :=
  when (in2831 g) (addFour (acc4 g s u H) (fourLhs g s 0x41E00000#32 0x41E80000#32 0x41F00000#32 0x41F80000#32) (fourRhs H 28 29 30 31)) (acc4 g s u H)

/-- The accumulator after 6 of the conditional additions. -/
def acc6 (g : Vec F S2048x32 .f32) (s : FVec F S2048x128 .bf16) (u : FVec F S2048x16 .bf16) (H : Vec F S33x144x128 .f32) : FVec F S2048x128 .f32 :=
  when (above23 g) (addEight (acc5 g s u H) (edgePiece g u 0x41C00000#32) (eightRhs H 24 25 26 27 28 29 30 31)) (acc5 g s u H)

/-- The accumulator after 7 of the conditional additions. -/
def acc7 (g : Vec F S2048x32 .f32) (s : FVec F S2048x128 .bf16) (u : FVec F S2048x16 .bf16) (H : Vec F S33x144x128 .f32) : FVec F S2048x128 .f32 :=
  when (is32 g) (addLast (acc6 g s u H) g s u H) (acc6 g s u H)

/-- One layer: the node values after it, from those before it. -/
def layer (g : Vec F S2048x32 .f32) (e : Vec F S2048x512 .f32) (H : Vec F S33x144x128 .f32) (h : FVec F S2048x128 .f32) : FVec F S2048x128 .f32 :=
  logistic (acc7 g (nodeSum g h) (edgeSum g e) H)

/-- One layer's readout: the nodes whose values do not sum to zero, summed per graph, times the readout weights. -/
def readout (h : FVec F S2048x128 .f32) (Wl : Vec F S128x128 .f32) : FVec F S64x128 .f32 :=
  matmul dot_S64x128_S128x128_S64x128_1_0_0_1_n_n none
    (multiReduction .add [1] S64x128 (shapeCast S64x32x128
      (mulf h (broadcastTo S2048x128 (sitofp .f32 (extui 32 (cmpf .one
        (shapeCast S2048x1 (multiReduction .add [1] S2048 h 0x00000000#32 reduces_S2048x128_S2048 (.inl rfl) rfl) shapeCasts_S2048_S2048x1)
        (broadcast S2048x1 (Scalar.ofBits .f32 0x00000000#32))) natLt_1_32)) broadcasts_S2048x1_S2048x128))
      shapeCasts_S2048x128_S64x32x128) 0x00000000#32 reduces_S64x32x128_S64x128 (.inl rfl) rfl)
    Wl (constant S64x128 .f32 0x00000000#32)

/-- The node values before the first layer. -/
def hid0 (h : Vec F S2048x128 .f32) : FVec F S2048x128 .f32 := k0_pay75 (whole h)

/-- The readouts of the inputs and of the first two layers, added up. -/
def aux2 (g : Vec F S2048x32 .f32) (e : Vec F S2048x512 .f32) (h : Vec F S2048x128 .f32) (H₀ H₁ : Vec F S33x144x128 .f32)
    (W₀ W₁ W₂ : Vec F S128x128 .f32) : FVec F S64x128 .f32 :=
  addf (addf (readout (hid0 h) (whole W₀)) (readout (layer g e H₀ (hid0 h)) (whole W₁))) (readout (layer g e H₁ (layer g e H₀ (hid0 h))) (whole W₂))

/-- What the body leaves: the readouts' sum through the last network. -/
def result (g : Vec F S2048x32 .f32) (e : Vec F S2048x512 .f32) (h : Vec F S2048x128 .f32) (H₀ H₁ H₂ : Vec F S33x144x128 .f32)
    (W₀ W₁ W₂ W₃ : Vec F S128x128 .f32) (N₀ : Vec F S128x128 .f32) (b₀ : Vec F S1x128 .f32) (N₁ : Vec F S128x256 .f32) (b₁ : Vec F S1x256 .f32)
    (N₂ : Vec F S256x128 .f32) (b₂ : Vec F S1x128 .f32) (N₃ : Vec F S128x12 .f32) (b₃ : Vec F S1x12 .f32) : FVec F S64x12 .f32 :=
  k0_pay194 (k0_pay193 (aux2 g e h H₀ H₁ W₀ W₁ W₂) (acc7 g (nodeSum g (layer g e H₁ (layer g e H₀ (hid0 h)))) (edgeSum g e) H₂) (whole W₃) (whole N₀) (whole b₀))
    (whole N₁) (whole b₁) (whole N₂) (whole b₂) (whole N₃) (whole b₃)

end Cert.KernelIdeal.Hand

end
-- ==== Proof.KernelIdealReads.lean ====
/-
  What the run of `KernelIdeal`'s body leaves in the result's staging buffer is `result` of the operand arrays, whatever the buffers
  that it overwrites held: each load of the accumulator reads a chain of conditional whole-buffer stores.
-/
module

public import proofs.«01_k».proof.Proof.KernelIdealBody
public import proofs.«01_k».proof.Proof.KernelIdealStages
public import Idealize.ShloMosaic.Lib.VecWindow
public import Idealize.ShloMosaic.Lib.Pipeline.ReadBack

@[expose] public section

set_option maxRecDepth 20000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Through a view, contents that a branch chose read as the branch's choice of the two readings, the stored branch reading
    its payload. -/
theorem read_when {sig : RefSig} {κ : Kind} {sp : Space} {s : Shape} {e : EltTy} {Val : EltTy → Type} (v : View sig κ sp s e)
    {off off' : Fin s.rank → ℕ} (inb : ∀ a, off a + s.size a ≤ s.size a) (inb' : ∀ a, off' a + s.size a ≤ s.size a)
    (C : Prop) [Decidable C] (X : C → v.ty.Contents Val) (Y : ¬ C → v.ty.Contents Val) (p : (Rect.unit off' s.size inb').shape.Idx → Val e)
    (L : List (View.Piece Val s e)) (y : s.Idx → Val e)
    (hy : ∀ h : ¬ C, v.readAt Val (Rect.unit off s.size inb).toLoadRect (Y h) = y) :
    v.readAt Val (Rect.unit off s.size inb).toLoadRect
      (dite C (fun h => v.writes Val (X h) (⟨Rect.unit off' s.size inb', p⟩ :: L)) Y) = if C then p else y := by
  by_cases h : C
  · rw [dif_pos h, if_pos h]; exact View.readAt_writes_full v _ inb inb' p L
  · rw [dif_neg h, if_neg h]; exact hy h

variable (c : Dev nD)

section

variable (f0 : Vec F S2048x32 .f32) (f1 : Vec F S2048x512 .f32) (f2 : Vec F S2048x128 .f32) (f3 f4 f5 : Vec F S33x144x128 .f32)

/-- The scratch read for rows 0 to 255 is their block of the adjacency. -/
theorem adj_0 : kernelRun.sl.v528 c f0 = adjBlock f0 0 := by
  unfold kernelRun.sl.v528 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 256 to 511 is their block of the adjacency. -/
theorem adj_1 : kernelRun.sl.v531 c f0 = adjBlock f0 1 := by
  unfold kernelRun.sl.v531 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 512 to 767 is their block of the adjacency. -/
theorem adj_2 : kernelRun.sl.v534 c f0 = adjBlock f0 2 := by
  unfold kernelRun.sl.v534 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 768 to 1023 is their block of the adjacency. -/
theorem adj_3 : kernelRun.sl.v537 c f0 = adjBlock f0 3 := by
  unfold kernelRun.sl.v537 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 1024 to 1279 is their block of the adjacency. -/
theorem adj_4 : kernelRun.sl.v540 c f0 = adjBlock f0 4 := by
  unfold kernelRun.sl.v540 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 1280 to 1535 is their block of the adjacency. -/
theorem adj_5 : kernelRun.sl.v543 c f0 = adjBlock f0 5 := by
  unfold kernelRun.sl.v543 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 1536 to 1791 is their block of the adjacency. -/
theorem adj_6 : kernelRun.sl.v546 c f0 = adjBlock f0 6 := by
  unfold kernelRun.sl.v546 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

/-- The scratch read for rows 1792 to 2047 is their block of the adjacency. -/
theorem adj_7 : kernelRun.sl.v549 c f0 = adjBlock f0 7 := by
  unfold kernelRun.sl.v549 kernelRun.sl.H19_8 kernelRun.sl.H19_5 kernelRun.sl.H19_1
  first
    | exact View.readCov_cons_toLoadRect _ _ _ _
    | refine (View.readCov_skip _ _ _ _ _ (by decide)).trans ?_
  all_goals first
    | exact View.readCov_cons_toLoadRect _ _ _ _
    | (repeat refine (View.readCov_skip _ _ _ _ _ (by decide)).trans ?_)
  all_goals exact View.readCov_cons_toLoadRect _ _ _ _

variable (f20 : Vec F S2048x128 .f32)

/-- The first layer's sums over the neighbours. -/
theorem sum_1 : kernelRun.sl.v553 c f0 f2 = nodeSum f0 (hid0 f2) := by
  unfold kernelRun.sl.v553 kernelRun.sl.v542 kernelRun.sl.v539 kernelRun.sl.v536 kernelRun.sl.v533 kernelRun.sl.v530 kernelRun.sl.v527
  rw [adj_0, adj_1, adj_2, adj_3, adj_4, adj_5, adj_6, adj_7]
  rfl

/-- The first layer's left factor for the middle degrees. -/
theorem lhs_1 : kernelRun.sl.v586 c f0 f1 f2 = midLhs f0 (nodeSum f0 (hid0 f2)) (edgeSum f0 f1) := by
  unfold kernelRun.sl.v586 kernelRun.sl.v542 kernelRun.sl.v539 kernelRun.sl.v536 kernelRun.sl.v533 kernelRun.sl.v530 kernelRun.sl.v527
  simp only [adj_0, adj_1, adj_2, adj_3, adj_4, adj_5, adj_6, adj_7]
  rfl

/-- The first layer's accumulator after the middle degrees. -/
theorem mid_1 : kernelRun.sl.v1097 c f0 f1 f2 f3 = accMid f0 (nodeSum f0 (hid0 f2)) (edgeSum f0 f1) f3 := by
  refine (View.readCov_full _ _ _ _ _).trans ?_
  rw [lhs_1]
  rfl

/-- The first layer's accumulator as read after 1 of the conditional additions. -/
theorem read_1_1 : kernelRun.sl.v1097_1 c f0 f1 f2 f3 f20 = acc1 f0 (nodeSum f0 (hid0 f2)) (edgeSum f0 f1) f3 := by
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 2 of the conditional additions. -/
theorem read_1_2 : kernelRun.sl.v1088 c f0 f1 f2 f3 f20 = acc2 f0 (nodeSum f0 (hid0 f2)) (edgeSum f0 f1) f3 := by
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 3 of the conditional additions. -/
theorem read_1_3 : kernelRun.sl.v1097_2 c f0 f1 f2 f3 f20 = acc3 f0 (nodeSum f0 (hid0 f2)) (edgeSum f0 f1) f3 := by
  refine (read_when (y := acc2 f0 (nodeSum f0 (hid0 f2)) (edgeSum f0 f1) f3) _ _ _ _ _ _ _ _ (fun _ => ?_)).trans ?_; rotate_left
  · rw [read_1_2]; rfl
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 4 of the conditional additions. -/
theorem read_1_4 : kernelRun.sl.v1097_3 c f0 f1 f2 f3 f20 = acc4 f0 (nodeSum f0 (hid0 f2)) (edgeSum f0 f1) f3 := by
  refine (read_when (y := acc3 f0 (nodeSum f0 (hid0 f2)) (edgeSum f0 f1) f3) _ _ _ _ _ _ _ _ (fun _ => ?_)).trans ?_; rotate_left
  · rw [sum_1, read_1_3]; rfl
  refine (read_when (y := acc2 f0 (nodeSum f0 (hid0 f2)) (edgeSum f0 f1) f3) _ _ _ _ _ _ _ _ (fun _ => ?_)).trans ?_; rotate_left
  · rw [read_1_2]; rfl
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 5 of the conditional additions. -/
theorem read_1_5 : kernelRun.sl.v1088_1 c f0 f1 f2 f3 f20 = acc5 f0 (nodeSum f0 (hid0 f2)) (edgeSum f0 f1) f3 := by
  refine (read_when (y := acc4 f0 (nodeSum f0 (hid0 f2)) (edgeSum f0 f1) f3) _ _ _ _ _ _ _ _ (fun _ => ?_)).trans ?_; rotate_left
  · rw [sum_1, read_1_4]; rfl
  refine (read_when (y := acc3 f0 (nodeSum f0 (hid0 f2)) (edgeSum f0 f1) f3) _ _ _ _ _ _ _ _ (fun _ => ?_)).trans ?_; rotate_left
  · rw [sum_1, read_1_3]; rfl
  refine (read_when (y := acc2 f0 (nodeSum f0 (hid0 f2)) (edgeSum f0 f1) f3) _ _ _ _ _ _ _ _ (fun _ => ?_)).trans ?_; rotate_left
  · rw [read_1_2]; rfl
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 6 of the conditional additions. -/
theorem read_1_6 : kernelRun.sl.v1091 c f0 f1 f2 f3 f20 = acc6 f0 (nodeSum f0 (hid0 f2)) (edgeSum f0 f1) f3 := by
  refine (read_when (y := acc5 f0 (nodeSum f0 (hid0 f2)) (edgeSum f0 f1) f3) _ _ _ _ _ _ _ _ (fun _ => ?_)).trans ?_; rotate_left
  · rw [read_1_5]; rfl
  refine (read_when (y := acc4 f0 (nodeSum f0 (hid0 f2)) (edgeSum f0 f1) f3) _ _ _ _ _ _ _ _ (fun _ => ?_)).trans ?_; rotate_left
  · rw [sum_1, read_1_4]; rfl
  refine (read_when (y := acc3 f0 (nodeSum f0 (hid0 f2)) (edgeSum f0 f1) f3) _ _ _ _ _ _ _ _ (fun _ => ?_)).trans ?_; rotate_left
  · rw [sum_1, read_1_3]; rfl
  refine (read_when (y := acc2 f0 (nodeSum f0 (hid0 f2)) (edgeSum f0 f1) f3) _ _ _ _ _ _ _ _ (fun _ => ?_)).trans ?_; rotate_left
  · rw [read_1_2]; rfl
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The first layer's accumulator as read after 7 of the conditional additions. -/
theorem read_1_7 : kernelRun.sl.v681 c f0 f1 f2 f3 f20 = acc7 f0 (nodeSum f0 (hid0 f2)) (edgeSum f0 f1) f3 := by
  refine (read_when (y := acc6 f0 (nodeSum f0 (hid0 f2)) (edgeSum f0 f1) f3) _ _ _ _ _ _ _ _ (fun _ => ?_)).trans ?_; rotate_left
  · rw [sum_1, read_1_6]; rfl
  refine (read_when (y := acc5 f0 (nodeSum f0 (hid0 f2)) (edgeSum f0 f1) f3) _ _ _ _ _ _ _ _ (fun _ => ?_)).trans ?_; rotate_left
  · rw [read_1_5]; rfl
  refine (read_when (y := acc4 f0 (nodeSum f0 (hid0 f2)) (edgeSum f0 f1) f3) _ _ _ _ _ _ _ _ (fun _ => ?_)).trans ?_; rotate_left
  · rw [sum_1, read_1_4]; rfl
  refine (read_when (y := acc3 f0 (nodeSum f0 (hid0 f2)) (edgeSum f0 f1) f3) _ _ _ _ _ _ _ _ (fun _ => ?_)).trans ?_; rotate_left
  · rw [sum_1, read_1_3]; rfl
  refine (read_when (y := acc2 f0 (nodeSum f0 (hid0 f2)) (edgeSum f0 f1) f3) _ _ _ _ _ _ _ _ (fun _ => ?_)).trans ?_; rotate_left
  · rw [read_1_2]; rfl
  refine (read_when (y := acc1 f0 (nodeSum f0 (hid0 f2)) (edgeSum f0 f1) f3) _ _ _ _ _ _ _ _ (fun _ => ?_)).trans ?_; rotate_left
  · rw [sum_1, read_1_1]; rfl
  refine (read_when (y := accMid f0 (nodeSum f0 (hid0 f2)) (edgeSum f0 f1) f3) _ _ _ _ _ _ _ _ (fun _ => ?_)).trans ?_; rotate_left
  · rw [sum_1, mid_1]; rfl
  exact (View.readAt_writes_full _ _ _ _ _ _).trans ((View.readCov_full _ _ _ _ _).symm.trans (mid_1 c f0 f1 f2 f3 ))

/-- The second layer's sums over the neighbours. -/
theorem sum_2 : kernelRun.sl.v722 c f0 f1 f2 f3 f20 = nodeSum f0 (logistic (kernelRun.sl.v681 c f0 f1 f2 f3 f20)) := by
  unfold kernelRun.sl.v722 kernelRun.sl.v699 kernelRun.sl.v696
  rw [adj_0, adj_1, adj_2, adj_3, adj_4, adj_5, adj_6, adj_7]
  generalize kernelRun.sl.v681 c f0 f1 f2 f3 f20 = x
  rfl

/-- The second layer's left factor for the middle degrees. -/
theorem lhs_2 : kernelRun.sl.v755 c f0 f1 f2 f3 f20 = midLhs f0 (nodeSum f0 (logistic (kernelRun.sl.v681 c f0 f1 f2 f3 f20))) (edgeSum f0 f1) := by
  unfold kernelRun.sl.v755 kernelRun.sl.v740 kernelRun.sl.v738 kernelRun.sl.v736 kernelRun.sl.v734 kernelRun.sl.v732 kernelRun.sl.v730 kernelRun.sl.v728 kernelRun.sl.v726 kernelRun.sl.v724 kernelRun.sl.v722 kernelRun.sl.v699 kernelRun.sl.v696
  simp only [adj_0, adj_1, adj_2, adj_3, adj_4, adj_5, adj_6, adj_7]
  generalize kernelRun.sl.v681 c f0 f1 f2 f3 f20 = x
  rfl

/-- The second layer's accumulator after the middle degrees. -/
theorem mid_2 : kernelRun.sl.v1097_4 c f0 f1 f2 f3 f4 f20 = accMid f0 (nodeSum f0 (logistic (kernelRun.sl.v681 c f0 f1 f2 f3 f20))) (edgeSum f0 f1) f4 := by
  refine (View.readCov_full _ _ _ _ _).trans ?_
  rw [lhs_2]
  rfl

/-- The second layer's accumulator as read after 1 of the conditional additions. -/
theorem read_2_1 : kernelRun.sl.v1097_5 c f0 f1 f2 f3 f4 f20 = acc1 f0 (nodeSum f0 (logistic (kernelRun.sl.v681 c f0 f1 f2 f3 f20))) (edgeSum f0 f1) f4 := by
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 2 of the conditional additions. -/
theorem read_2_2 : kernelRun.sl.v1088_2 c f0 f1 f2 f3 f4 f20 = acc2 f0 (nodeSum f0 (logistic (kernelRun.sl.v681 c f0 f1 f2 f3 f20))) (edgeSum f0 f1) f4 := by
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 3 of the conditional additions. -/
theorem read_2_3 : kernelRun.sl.v1097_6 c f0 f1 f2 f3 f4 f20 = acc3 f0 (nodeSum f0 (logistic (kernelRun.sl.v681 c f0 f1 f2 f3 f20))) (edgeSum f0 f1) f4 := by
  refine (read_when (y := acc2 f0 (nodeSum f0 (logistic (kernelRun.sl.v681 c f0 f1 f2 f3 f20))) (edgeSum f0 f1) f4) _ _ _ _ _ _ _ _ (fun _ => ?_)).trans ?_; rotate_left
  · rw [read_2_2]; rfl
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 4 of the conditional additions. -/
theorem read_2_4 : kernelRun.sl.v1097_7 c f0 f1 f2 f3 f4 f20 = acc4 f0 (nodeSum f0 (logistic (kernelRun.sl.v681 c f0 f1 f2 f3 f20))) (edgeSum f0 f1) f4 := by
  refine (read_when (y := acc3 f0 (nodeSum f0 (logistic (kernelRun.sl.v681 c f0 f1 f2 f3 f20))) (edgeSum f0 f1) f4) _ _ _ _ _ _ _ _ (fun _ => ?_)).trans ?_; rotate_left
  · rw [sum_2, read_2_3]; rfl
  refine (read_when (y := acc2 f0 (nodeSum f0 (logistic (kernelRun.sl.v681 c f0 f1 f2 f3 f20))) (edgeSum f0 f1) f4) _ _ _ _ _ _ _ _ (fun _ => ?_)).trans ?_; rotate_left
  · rw [read_2_2]; rfl
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 5 of the conditional additions. -/
theorem read_2_5 : kernelRun.sl.v1088_3 c f0 f1 f2 f3 f4 f20 = acc5 f0 (nodeSum f0 (logistic (kernelRun.sl.v681 c f0 f1 f2 f3 f20))) (edgeSum f0 f1) f4 := by
  refine (read_when (y := acc4 f0 (nodeSum f0 (logistic (kernelRun.sl.v681 c f0 f1 f2 f3 f20))) (edgeSum f0 f1) f4) _ _ _ _ _ _ _ _ (fun _ => ?_)).trans ?_; rotate_left
  · rw [sum_2, read_2_4]; rfl
  refine (read_when (y := acc3 f0 (nodeSum f0 (logistic (kernelRun.sl.v681 c f0 f1 f2 f3 f20))) (edgeSum f0 f1) f4) _ _ _ _ _ _ _ _ (fun _ => ?_)).trans ?_; rotate_left
  · rw [sum_2, read_2_3]; rfl
  refine (read_when (y := acc2 f0 (nodeSum f0 (logistic (kernelRun.sl.v681 c f0 f1 f2 f3 f20))) (edgeSum f0 f1) f4) _ _ _ _ _ _ _ _ (fun _ => ?_)).trans ?_; rotate_left
  · rw [read_2_2]; rfl
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 6 of the conditional additions. -/
theorem read_2_6 : kernelRun.sl.v1091_1 c f0 f1 f2 f3 f4 f20 = acc6 f0 (nodeSum f0 (logistic (kernelRun.sl.v681 c f0 f1 f2 f3 f20))) (edgeSum f0 f1) f4 := by
  refine (read_when (y := acc5 f0 (nodeSum f0 (logistic (kernelRun.sl.v681 c f0 f1 f2 f3 f20))) (edgeSum f0 f1) f4) _ _ _ _ _ _ _ _ (fun _ => ?_)).trans ?_; rotate_left
  · rw [read_2_5]; rfl
  refine (read_when (y := acc4 f0 (nodeSum f0 (logistic (kernelRun.sl.v681 c f0 f1 f2 f3 f20))) (edgeSum f0 f1) f4) _ _ _ _ _ _ _ _ (fun _ => ?_)).trans ?_; rotate_left
  · rw [sum_2, read_2_4]; rfl
  refine (read_when (y := acc3 f0 (nodeSum f0 (logistic (kernelRun.sl.v681 c f0 f1 f2 f3 f20))) (edgeSum f0 f1) f4) _ _ _ _ _ _ _ _ (fun _ => ?_)).trans ?_; rotate_left
  · rw [sum_2, read_2_3]; rfl
  refine (read_when (y := acc2 f0 (nodeSum f0 (logistic (kernelRun.sl.v681 c f0 f1 f2 f3 f20))) (edgeSum f0 f1) f4) _ _ _ _ _ _ _ _ (fun _ => ?_)).trans ?_; rotate_left
  · rw [read_2_2]; rfl
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The second layer's accumulator as read after 7 of the conditional additions. -/
theorem read_2_7 : kernelRun.sl.v850 c f0 f1 f2 f3 f4 f20 = acc7 f0 (nodeSum f0 (logistic (kernelRun.sl.v681 c f0 f1 f2 f3 f20))) (edgeSum f0 f1) f4 := by
  refine (read_when (y := acc6 f0 (nodeSum f0 (logistic (kernelRun.sl.v681 c f0 f1 f2 f3 f20))) (edgeSum f0 f1) f4) _ _ _ _ _ _ _ _ (fun _ => ?_)).trans ?_; rotate_left
  · rw [sum_2, read_2_6]; rfl
  refine (read_when (y := acc5 f0 (nodeSum f0 (logistic (kernelRun.sl.v681 c f0 f1 f2 f3 f20))) (edgeSum f0 f1) f4) _ _ _ _ _ _ _ _ (fun _ => ?_)).trans ?_; rotate_left
  · rw [read_2_5]; rfl
  refine (read_when (y := acc4 f0 (nodeSum f0 (logistic (kernelRun.sl.v681 c f0 f1 f2 f3 f20))) (edgeSum f0 f1) f4) _ _ _ _ _ _ _ _ (fun _ => ?_)).trans ?_; rotate_left
  · rw [sum_2, read_2_4]; rfl
  refine (read_when (y := acc3 f0 (nodeSum f0 (logistic (kernelRun.sl.v681 c f0 f1 f2 f3 f20))) (edgeSum f0 f1) f4) _ _ _ _ _ _ _ _ (fun _ => ?_)).trans ?_; rotate_left
  · rw [sum_2, read_2_3]; rfl
  refine (read_when (y := acc2 f0 (nodeSum f0 (logistic (kernelRun.sl.v681 c f0 f1 f2 f3 f20))) (edgeSum f0 f1) f4) _ _ _ _ _ _ _ _ (fun _ => ?_)).trans ?_; rotate_left
  · rw [read_2_2]; rfl
  refine (read_when (y := acc1 f0 (nodeSum f0 (logistic (kernelRun.sl.v681 c f0 f1 f2 f3 f20))) (edgeSum f0 f1) f4) _ _ _ _ _ _ _ _ (fun _ => ?_)).trans ?_; rotate_left
  · rw [sum_2, read_2_1]; rfl
  refine (read_when (y := accMid f0 (nodeSum f0 (logistic (kernelRun.sl.v681 c f0 f1 f2 f3 f20))) (edgeSum f0 f1) f4) _ _ _ _ _ _ _ _ (fun _ => ?_)).trans ?_; rotate_left
  · rw [sum_2, mid_2]; rfl
  exact (View.readAt_writes_full _ _ _ _ _ _).trans ((View.readCov_full _ _ _ _ _).symm.trans (mid_2 c f0 f1 f2 f3 f4 f20))

/-- The third layer's sums over the neighbours. -/
theorem sum_3 : kernelRun.sl.v891 c f0 f1 f2 f3 f4 f20 = nodeSum f0 (logistic (kernelRun.sl.v850 c f0 f1 f2 f3 f4 f20)) := by
  unfold kernelRun.sl.v891 kernelRun.sl.v888 kernelRun.sl.v886 kernelRun.sl.v883 kernelRun.sl.v880 kernelRun.sl.v877 kernelRun.sl.v874 kernelRun.sl.v871 kernelRun.sl.v868 kernelRun.sl.v851
  rw [adj_0, adj_1, adj_2, adj_3, adj_4, adj_5, adj_6, adj_7]
  generalize kernelRun.sl.v850 c f0 f1 f2 f3 f4 f20 = x
  rfl

/-- The third layer's left factor for the middle degrees. -/
theorem lhs_3 : kernelRun.sl.v924 c f0 f1 f2 f3 f4 f20 = midLhs f0 (nodeSum f0 (logistic (kernelRun.sl.v850 c f0 f1 f2 f3 f4 f20))) (edgeSum f0 f1) := by
  unfold kernelRun.sl.v924 kernelRun.sl.v888 kernelRun.sl.v886 kernelRun.sl.v883 kernelRun.sl.v880 kernelRun.sl.v877 kernelRun.sl.v874 kernelRun.sl.v871 kernelRun.sl.v868 kernelRun.sl.v851
  simp only [adj_0, adj_1, adj_2, adj_3, adj_4, adj_5, adj_6, adj_7]
  generalize kernelRun.sl.v850 c f0 f1 f2 f3 f4 f20 = x
  rfl

/-- The third layer's accumulator after the middle degrees. -/
theorem mid_3 : kernelRun.sl.v1097_8 c f0 f1 f2 f3 f4 f5 f20 = accMid f0 (nodeSum f0 (logistic (kernelRun.sl.v850 c f0 f1 f2 f3 f4 f20))) (edgeSum f0 f1) f5 := by
  refine (View.readCov_full _ _ _ _ _).trans ?_
  rw [lhs_3]
  rfl

/-- The third layer's accumulator as read after 1 of the conditional additions. -/
theorem read_3_1 : kernelRun.sl.v1097_9 c f0 f1 f2 f3 f4 f5 f20 = acc1 f0 (nodeSum f0 (logistic (kernelRun.sl.v850 c f0 f1 f2 f3 f4 f20))) (edgeSum f0 f1) f5 := by
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 2 of the conditional additions. -/
theorem read_3_2 : kernelRun.sl.v1088_4 c f0 f1 f2 f3 f4 f5 f20 = acc2 f0 (nodeSum f0 (logistic (kernelRun.sl.v850 c f0 f1 f2 f3 f4 f20))) (edgeSum f0 f1) f5 := by
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 3 of the conditional additions. -/
theorem read_3_3 : kernelRun.sl.v1097_10 c f0 f1 f2 f3 f4 f5 f20 = acc3 f0 (nodeSum f0 (logistic (kernelRun.sl.v850 c f0 f1 f2 f3 f4 f20))) (edgeSum f0 f1) f5 := by
  refine (read_when (y := acc2 f0 (nodeSum f0 (logistic (kernelRun.sl.v850 c f0 f1 f2 f3 f4 f20))) (edgeSum f0 f1) f5) _ _ _ _ _ _ _ _ (fun _ => ?_)).trans ?_; rotate_left
  · rw [read_3_2]; rfl
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 4 of the conditional additions. -/
theorem read_3_4 : kernelRun.sl.v1097_11 c f0 f1 f2 f3 f4 f5 f20 = acc4 f0 (nodeSum f0 (logistic (kernelRun.sl.v850 c f0 f1 f2 f3 f4 f20))) (edgeSum f0 f1) f5 := by
  refine (read_when (y := acc3 f0 (nodeSum f0 (logistic (kernelRun.sl.v850 c f0 f1 f2 f3 f4 f20))) (edgeSum f0 f1) f5) _ _ _ _ _ _ _ _ (fun _ => ?_)).trans ?_; rotate_left
  · rw [sum_3, read_3_3]; rfl
  refine (read_when (y := acc2 f0 (nodeSum f0 (logistic (kernelRun.sl.v850 c f0 f1 f2 f3 f4 f20))) (edgeSum f0 f1) f5) _ _ _ _ _ _ _ _ (fun _ => ?_)).trans ?_; rotate_left
  · rw [read_3_2]; rfl
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 5 of the conditional additions. -/
theorem read_3_5 : kernelRun.sl.v1088_5 c f0 f1 f2 f3 f4 f5 f20 = acc5 f0 (nodeSum f0 (logistic (kernelRun.sl.v850 c f0 f1 f2 f3 f4 f20))) (edgeSum f0 f1) f5 := by
  refine (read_when (y := acc4 f0 (nodeSum f0 (logistic (kernelRun.sl.v850 c f0 f1 f2 f3 f4 f20))) (edgeSum f0 f1) f5) _ _ _ _ _ _ _ _ (fun _ => ?_)).trans ?_; rotate_left
  · rw [sum_3, read_3_4]; rfl
  refine (read_when (y := acc3 f0 (nodeSum f0 (logistic (kernelRun.sl.v850 c f0 f1 f2 f3 f4 f20))) (edgeSum f0 f1) f5) _ _ _ _ _ _ _ _ (fun _ => ?_)).trans ?_; rotate_left
  · rw [sum_3, read_3_3]; rfl
  refine (read_when (y := acc2 f0 (nodeSum f0 (logistic (kernelRun.sl.v850 c f0 f1 f2 f3 f4 f20))) (edgeSum f0 f1) f5) _ _ _ _ _ _ _ _ (fun _ => ?_)).trans ?_; rotate_left
  · rw [read_3_2]; rfl
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 6 of the conditional additions. -/
theorem read_3_6 : kernelRun.sl.v1091_2 c f0 f1 f2 f3 f4 f5 f20 = acc6 f0 (nodeSum f0 (logistic (kernelRun.sl.v850 c f0 f1 f2 f3 f4 f20))) (edgeSum f0 f1) f5 := by
  refine (read_when (y := acc5 f0 (nodeSum f0 (logistic (kernelRun.sl.v850 c f0 f1 f2 f3 f4 f20))) (edgeSum f0 f1) f5) _ _ _ _ _ _ _ _ (fun _ => ?_)).trans ?_; rotate_left
  · rw [read_3_5]; rfl
  refine (read_when (y := acc4 f0 (nodeSum f0 (logistic (kernelRun.sl.v850 c f0 f1 f2 f3 f4 f20))) (edgeSum f0 f1) f5) _ _ _ _ _ _ _ _ (fun _ => ?_)).trans ?_; rotate_left
  · rw [sum_3, read_3_4]; rfl
  refine (read_when (y := acc3 f0 (nodeSum f0 (logistic (kernelRun.sl.v850 c f0 f1 f2 f3 f4 f20))) (edgeSum f0 f1) f5) _ _ _ _ _ _ _ _ (fun _ => ?_)).trans ?_; rotate_left
  · rw [sum_3, read_3_3]; rfl
  refine (read_when (y := acc2 f0 (nodeSum f0 (logistic (kernelRun.sl.v850 c f0 f1 f2 f3 f4 f20))) (edgeSum f0 f1) f5) _ _ _ _ _ _ _ _ (fun _ => ?_)).trans ?_; rotate_left
  · rw [read_3_2]; rfl
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))

/-- The third layer's accumulator as read after 7 of the conditional additions. -/
theorem read_3_7 : kernelRun.sl.v1019 c f0 f1 f2 f3 f4 f5 f20 = acc7 f0 (nodeSum f0 (logistic (kernelRun.sl.v850 c f0 f1 f2 f3 f4 f20))) (edgeSum f0 f1) f5 := by
  refine (read_when (y := acc6 f0 (nodeSum f0 (logistic (kernelRun.sl.v850 c f0 f1 f2 f3 f4 f20))) (edgeSum f0 f1) f5) _ _ _ _ _ _ _ _ (fun _ => ?_)).trans ?_; rotate_left
  · rw [sum_3, read_3_6]; rfl
  refine (read_when (y := acc5 f0 (nodeSum f0 (logistic (kernelRun.sl.v850 c f0 f1 f2 f3 f4 f20))) (edgeSum f0 f1) f5) _ _ _ _ _ _ _ _ (fun _ => ?_)).trans ?_; rotate_left
  · rw [read_3_5]; rfl
  refine (read_when (y := acc4 f0 (nodeSum f0 (logistic (kernelRun.sl.v850 c f0 f1 f2 f3 f4 f20))) (edgeSum f0 f1) f5) _ _ _ _ _ _ _ _ (fun _ => ?_)).trans ?_; rotate_left
  · rw [sum_3, read_3_4]; rfl
  refine (read_when (y := acc3 f0 (nodeSum f0 (logistic (kernelRun.sl.v850 c f0 f1 f2 f3 f4 f20))) (edgeSum f0 f1) f5) _ _ _ _ _ _ _ _ (fun _ => ?_)).trans ?_; rotate_left
  · rw [sum_3, read_3_3]; rfl
  refine (read_when (y := acc2 f0 (nodeSum f0 (logistic (kernelRun.sl.v850 c f0 f1 f2 f3 f4 f20))) (edgeSum f0 f1) f5) _ _ _ _ _ _ _ _ (fun _ => ?_)).trans ?_; rotate_left
  · rw [read_3_2]; rfl
  refine (read_when (y := acc1 f0 (nodeSum f0 (logistic (kernelRun.sl.v850 c f0 f1 f2 f3 f4 f20))) (edgeSum f0 f1) f5) _ _ _ _ _ _ _ _ (fun _ => ?_)).trans ?_; rotate_left
  · rw [sum_3, read_3_1]; rfl
  refine (read_when (y := accMid f0 (nodeSum f0 (logistic (kernelRun.sl.v850 c f0 f1 f2 f3 f4 f20))) (edgeSum f0 f1) f5) _ _ _ _ _ _ _ _ (fun _ => ?_)).trans ?_; rotate_left
  · rw [sum_3, mid_3]; rfl
  exact (View.readAt_writes_full _ _ _ _ _ _).trans ((View.readCov_full _ _ _ _ _).symm.trans (mid_3 c f0 f1 f2 f3 f4 f5 f20))
end

end Cert.KernelIdeal.Hand

end
-- ==== Proof.KernelIdealRun.lean ====
/-
  The contents that the run of `KernelIdeal`'s body leaves in the result's staging buffer, as the named stages.
-/
module

public import proofs.«01_k».proof.Proof.KernelIdealReads

@[expose] public section

set_option maxRecDepth 20000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- What the body leaves is the stages' result at the operands, and depends on nothing else. -/
theorem run_result (c : Dev nD) (E : Set ℕ) (f0 : Bf (F := F) c (Memref.whole cc0_stg0_0)) (f1 : Bf (F := F) c (Memref.whole cc0_stg1_0)) (f2 : Bf (F := F) c (Memref.whole cc0_stg2_0)) (f3 : Bf (F := F) c (Memref.whole cc0_stg3_0)) (f4 : Bf (F := F) c (Memref.whole cc0_stg4_0)) (f5 : Bf (F := F) c (Memref.whole cc0_stg5_0)) (f6 : Bf (F := F) c (Memref.whole cc0_stg6_0)) (f7 : Bf (F := F) c (Memref.whole cc0_stg7_0)) (f8 : Bf (F := F) c (Memref.whole cc0_stg8_0)) (f9 : Bf (F := F) c (Memref.whole cc0_stg9_0)) (f10 : Bf (F := F) c (Memref.whole cc0_stg10_0)) (f11 : Bf (F := F) c (Memref.whole cc0_stg11_0)) (f12 : Bf (F := F) c (Memref.whole cc0_stg12_0)) (f13 : Bf (F := F) c (Memref.whole cc0_stg13_0)) (f14 : Bf (F := F) c (Memref.whole cc0_stg14_0)) (f15 : Bf (F := F) c (Memref.whole cc0_stg15_0)) (f16 : Bf (F := F) c (Memref.whole cc0_stg16_0)) (f17 : Bf (F := F) c (Memref.whole cc0_stg17_0)) (f18 : Bf (F := F) c (Memref.whole cc0_stg18_0)) (f19 : Bf (F := F) c (Memref.whole cc0_scratch0)) (f20 : Bf (F := F) c (Memref.whole cc0_scratch1)) :
    (kernelRun c E f0 f1 f2 f3 f4 f5 f6 f7 f8 f9 f10 f11 f12 f13 f14 f15 f16 f17 f18 f19 f20).1 = result f0 f1 f2 f3 f4 f5 f6 f7 f8 f9 f10 f11 f12 f13 f14 f15 f16 f17 := by
  unfold kernelRun
  change View.read (Elt F) (Memref.whole cc0_stg18_0).view ((Memref.whole cc0_stg18_0).view.writes (Elt F) _ _) = _
  refine (View.read_writes_full (Memref.whole cc0_stg18_0).view _ _ _ _).trans ?_
  delta kernelRun.sl.v1086
  delta kernelRun.sl.v1050 kernelRun.sl.v864
  delta kernelRun.sl.v855 kernelRun.sl.v851 kernelRun.sl.v695
  delta kernelRun.sl.v526
  rw [read_3_7, read_2_7, read_1_7]
  rfl

end Cert.KernelIdeal.Hand

end
-- ==== Proof.KernelIdealFrame.lean ====
/-
  The frame of `KernelIdeal`: the pipeline's proof data over the body's run (`kernelRun`), the body obligation, the launch and the
  frame claim's statement. The program is one region over a single point: eighteen whole-array input windows, the result's
  window, and two scratch buffers the invariant holds at some contents.
-/
module

public import proofs.«01_k».proof.Proof.KernelIdealRun
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's staging buffer, from the input windows' blocks. -/
def out (c : Dev nD) (t : Fin cfg0.N) : Vec F S64x12 .f32 :=
  result (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The proof data on core `c`: the arrays as the region finds them; after the body each input's buffer at its block and
    the result's at `out`; the invariant the scratch buffers and the generator register at something; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out m c t
    | ⟨n + 19, h⟩ => absurd h (by show ¬ (n + 19 < 19); omega)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The body leaves window 0's block in place. -/
theorem after0_0 (c : Dev nD) (t : Fin cfg0.N) : (dats m 0 c).after 0 t = iblk m c 0 t := by dsimp only [dats]
/-- The body leaves window 1's block in place. -/
theorem after0_1 (c : Dev nD) (t : Fin cfg0.N) : (dats m 0 c).after 1 t = iblk m c 1 t := by dsimp only [dats]
/-- The body leaves window 2's block in place. -/
theorem after0_2 (c : Dev nD) (t : Fin cfg0.N) : (dats m 0 c).after 2 t = iblk m c 2 t := by dsimp only [dats]
/-- The body leaves window 3's block in place. -/
theorem after0_3 (c : Dev nD) (t : Fin cfg0.N) : (dats m 0 c).after 3 t = iblk m c 3 t := by dsimp only [dats]
/-- The body leaves window 4's block in place. -/
theorem after0_4 (c : Dev nD) (t : Fin cfg0.N) : (dats m 0 c).after 4 t = iblk m c 4 t := by dsimp only [dats]
/-- The body leaves window 5's block in place. -/
theorem after0_5 (c : Dev nD) (t : Fin cfg0.N) : (dats m 0 c).after 5 t = iblk m c 5 t := by dsimp only [dats]
/-- The body leaves window 6's block in place. -/
theorem after0_6 (c : Dev nD) (t : Fin cfg0.N) : (dats m 0 c).after 6 t = iblk m c 6 t := by dsimp only [dats]
/-- The body leaves window 7's block in place. -/
theorem after0_7 (c : Dev nD) (t : Fin cfg0.N) : (dats m 0 c).after 7 t = iblk m c 7 t := by dsimp only [dats]
/-- The body leaves window 8's block in place. -/
theorem after0_8 (c : Dev nD) (t : Fin cfg0.N) : (dats m 0 c).after 8 t = iblk m c 8 t := by dsimp only [dats]
/-- The body leaves window 9's block in place. -/
theorem after0_9 (c : Dev nD) (t : Fin cfg0.N) : (dats m 0 c).after 9 t = iblk m c 9 t := by dsimp only [dats]
/-- The body leaves window 10's block in place. -/
theorem after0_10 (c : Dev nD) (t : Fin cfg0.N) : (dats m 0 c).after 10 t = iblk m c 10 t := by dsimp only [dats]
/-- The body leaves window 11's block in place. -/
theorem after0_11 (c : Dev nD) (t : Fin cfg0.N) : (dats m 0 c).after 11 t = iblk m c 11 t := by dsimp only [dats]
/-- The body leaves window 12's block in place. -/
theorem after0_12 (c : Dev nD) (t : Fin cfg0.N) : (dats m 0 c).after 12 t = iblk m c 12 t := by dsimp only [dats]
/-- The body leaves window 13's block in place. -/
theorem after0_13 (c : Dev nD) (t : Fin cfg0.N) : (dats m 0 c).after 13 t = iblk m c 13 t := by dsimp only [dats]
/-- The body leaves window 14's block in place. -/
theorem after0_14 (c : Dev nD) (t : Fin cfg0.N) : (dats m 0 c).after 14 t = iblk m c 14 t := by dsimp only [dats]
/-- The body leaves window 15's block in place. -/
theorem after0_15 (c : Dev nD) (t : Fin cfg0.N) : (dats m 0 c).after 15 t = iblk m c 15 t := by dsimp only [dats]
/-- The body leaves window 16's block in place. -/
theorem after0_16 (c : Dev nD) (t : Fin cfg0.N) : (dats m 0 c).after 16 t = iblk m c 16 t := by dsimp only [dats]
/-- The body leaves window 17's block in place. -/
theorem after0_17 (c : Dev nD) (t : Fin cfg0.N) : (dats m 0 c).after 17 t = iblk m c 17 t := by dsimp only [dats]
/-- What the body leaves in the result's buffer. -/
theorem after0_18 (c : Dev nD) (t : Fin cfg0.N) : (dats m 0 c).after 18 t = out m c t := by dsimp only [dats]

/-- The body finds window 0's block. -/
theorem before0_0 (c : Dev nD) (t : Fin cfg0.N) (d) : (dats m 0 c).before 0 t d = iblk m c 0 t :=
  before0_0_of m (dats m 0 c) (A_eq m c 0) (after0_0 m c) t d
/-- The body finds window 1's block. -/
theorem before0_1 (c : Dev nD) (t : Fin cfg0.N) (d) : (dats m 0 c).before 1 t d = iblk m c 1 t :=
  before0_1_of m (dats m 0 c) (A_eq m c 1) (after0_1 m c) t d
/-- The body finds window 2's block. -/
theorem before0_2 (c : Dev nD) (t : Fin cfg0.N) (d) : (dats m 0 c).before 2 t d = iblk m c 2 t :=
  before0_2_of m (dats m 0 c) (A_eq m c 2) (after0_2 m c) t d
/-- The body finds window 3's block. -/
theorem before0_3 (c : Dev nD) (t : Fin cfg0.N) (d) : (dats m 0 c).before 3 t d = iblk m c 3 t :=
  before0_3_of m (dats m 0 c) (A_eq m c 3) (after0_3 m c) t d
/-- The body finds window 4's block. -/
theorem before0_4 (c : Dev nD) (t : Fin cfg0.N) (d) : (dats m 0 c).before 4 t d = iblk m c 4 t :=
  before0_4_of m (dats m 0 c) (A_eq m c 4) (after0_4 m c) t d
/-- The body finds window 5's block. -/
theorem before0_5 (c : Dev nD) (t : Fin cfg0.N) (d) : (dats m 0 c).before 5 t d = iblk m c 5 t :=
  before0_5_of m (dats m 0 c) (A_eq m c 5) (after0_5 m c) t d
/-- The body finds window 6's block. -/
theorem before0_6 (c : Dev nD) (t : Fin cfg0.N) (d) : (dats m 0 c).before 6 t d = iblk m c 6 t :=
  before0_6_of m (dats m 0 c) (A_eq m c 6) (after0_6 m c) t d
/-- The body finds window 7's block. -/
theorem before0_7 (c : Dev nD) (t : Fin cfg0.N) (d) : (dats m 0 c).before 7 t d = iblk m c 7 t :=
  before0_7_of m (dats m 0 c) (A_eq m c 7) (after0_7 m c) t d
/-- The body finds window 8's block. -/
theorem before0_8 (c : Dev nD) (t : Fin cfg0.N) (d) : (dats m 0 c).before 8 t d = iblk m c 8 t :=
  before0_8_of m (dats m 0 c) (A_eq m c 8) (after0_8 m c) t d
/-- The body finds window 9's block. -/
theorem before0_9 (c : Dev nD) (t : Fin cfg0.N) (d) : (dats m 0 c).before 9 t d = iblk m c 9 t :=
  before0_9_of m (dats m 0 c) (A_eq m c 9) (after0_9 m c) t d
/-- The body finds window 10's block. -/
theorem before0_10 (c : Dev nD) (t : Fin cfg0.N) (d) : (dats m 0 c).before 10 t d = iblk m c 10 t :=
  before0_10_of m (dats m 0 c) (A_eq m c 10) (after0_10 m c) t d
/-- The body finds window 11's block. -/
theorem before0_11 (c : Dev nD) (t : Fin cfg0.N) (d) : (dats m 0 c).before 11 t d = iblk m c 11 t :=
  before0_11_of m (dats m 0 c) (A_eq m c 11) (after0_11 m c) t d
/-- The body finds window 12's block. -/
theorem before0_12 (c : Dev nD) (t : Fin cfg0.N) (d) : (dats m 0 c).before 12 t d = iblk m c 12 t :=
  before0_12_of m (dats m 0 c) (A_eq m c 12) (after0_12 m c) t d
/-- The body finds window 13's block. -/
theorem before0_13 (c : Dev nD) (t : Fin cfg0.N) (d) : (dats m 0 c).before 13 t d = iblk m c 13 t :=
  before0_13_of m (dats m 0 c) (A_eq m c 13) (after0_13 m c) t d
/-- The body finds window 14's block. -/
theorem before0_14 (c : Dev nD) (t : Fin cfg0.N) (d) : (dats m 0 c).before 14 t d = iblk m c 14 t :=
  before0_14_of m (dats m 0 c) (A_eq m c 14) (after0_14 m c) t d
/-- The body finds window 15's block. -/
theorem before0_15 (c : Dev nD) (t : Fin cfg0.N) (d) : (dats m 0 c).before 15 t d = iblk m c 15 t :=
  before0_15_of m (dats m 0 c) (A_eq m c 15) (after0_15 m c) t d
/-- The body finds window 16's block. -/
theorem before0_16 (c : Dev nD) (t : Fin cfg0.N) (d) : (dats m 0 c).before 16 t d = iblk m c 16 t :=
  before0_16_of m (dats m 0 c) (A_eq m c 16) (after0_16 m c) t d
/-- The body finds window 17's block. -/
theorem before0_17 (c : Dev nD) (t : Fin cfg0.N) (d) : (dats m 0 c).before 17 t d = iblk m c 17 t :=
  before0_17_of m (dats m 0 c) (A_eq m c 17) (after0_17 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t))

/-! Each window's staging buffer, held whole. -/

/-- Window 0's staging buffer, held whole. -/
theorem own_0 (c : Dev nD) (X) :
    (owns (c : Thread nD τ) (st0_0 t0_0) fullShare X : sProp 𝕄) = pt (F := F) c (Memref.whole cc0_stg0_0) X := owns_whole _ _ _ _
/-- Window 1's staging buffer, held whole. -/
theorem own_1 (c : Dev nD) (X) :
    (owns (c : Thread nD τ) (st0_1 t0_0) fullShare X : sProp 𝕄) = pt (F := F) c (Memref.whole cc0_stg1_0) X := owns_whole _ _ _ _
/-- Window 2's staging buffer, held whole. -/
theorem own_2 (c : Dev nD) (X) :
    (owns (c : Thread nD τ) (st0_2 t0_0) fullShare X : sProp 𝕄) = pt (F := F) c (Memref.whole cc0_stg2_0) X := owns_whole _ _ _ _
/-- Window 3's staging buffer, held whole. -/
theorem own_3 (c : Dev nD) (X) :
    (owns (c : Thread nD τ) (st0_3 t0_0) fullShare X : sProp 𝕄) = pt (F := F) c (Memref.whole cc0_stg3_0) X := owns_whole _ _ _ _
/-- Window 4's staging buffer, held whole. -/
theorem own_4 (c : Dev nD) (X) :
    (owns (c : Thread nD τ) (st0_4 t0_0) fullShare X : sProp 𝕄) = pt (F := F) c (Memref.whole cc0_stg4_0) X := owns_whole _ _ _ _
/-- Window 5's staging buffer, held whole. -/
theorem own_5 (c : Dev nD) (X) :
    (owns (c : Thread nD τ) (st0_5 t0_0) fullShare X : sProp 𝕄) = pt (F := F) c (Memref.whole cc0_stg5_0) X := owns_whole _ _ _ _
/-- Window 6's staging buffer, held whole. -/
theorem own_6 (c : Dev nD) (X) :
    (owns (c : Thread nD τ) (st0_6 t0_0) fullShare X : sProp 𝕄) = pt (F := F) c (Memref.whole cc0_stg6_0) X := owns_whole _ _ _ _
/-- Window 7's staging buffer, held whole. -/
theorem own_7 (c : Dev nD) (X) :
    (owns (c : Thread nD τ) (st0_7 t0_0) fullShare X : sProp 𝕄) = pt (F := F) c (Memref.whole cc0_stg7_0) X := owns_whole _ _ _ _
/-- Window 8's staging buffer, held whole. -/
theorem own_8 (c : Dev nD) (X) :
    (owns (c : Thread nD τ) (st0_8 t0_0) fullShare X : sProp 𝕄) = pt (F := F) c (Memref.whole cc0_stg8_0) X := owns_whole _ _ _ _
/-- Window 9's staging buffer, held whole. -/
theorem own_9 (c : Dev nD) (X) :
    (owns (c : Thread nD τ) (st0_9 t0_0) fullShare X : sProp 𝕄) = pt (F := F) c (Memref.whole cc0_stg9_0) X := owns_whole _ _ _ _
/-- Window 10's staging buffer, held whole. -/
theorem own_10 (c : Dev nD) (X) :
    (owns (c : Thread nD τ) (st0_10 t0_0) fullShare X : sProp 𝕄) = pt (F := F) c (Memref.whole cc0_stg10_0) X := owns_whole _ _ _ _
/-- Window 11's staging buffer, held whole. -/
theorem own_11 (c : Dev nD) (X) :
    (owns (c : Thread nD τ) (st0_11 t0_0) fullShare X : sProp 𝕄) = pt (F := F) c (Memref.whole cc0_stg11_0) X := owns_whole _ _ _ _
/-- Window 12's staging buffer, held whole. -/
theorem own_12 (c : Dev nD) (X) :
    (owns (c : Thread nD τ) (st0_12 t0_0) fullShare X : sProp 𝕄) = pt (F := F) c (Memref.whole cc0_stg12_0) X := owns_whole _ _ _ _
/-- Window 13's staging buffer, held whole. -/
theorem own_13 (c : Dev nD) (X) :
    (owns (c : Thread nD τ) (st0_13 t0_0) fullShare X : sProp 𝕄) = pt (F := F) c (Memref.whole cc0_stg13_0) X := owns_whole _ _ _ _
/-- Window 14's staging buffer, held whole. -/
theorem own_14 (c : Dev nD) (X) :
    (owns (c : Thread nD τ) (st0_14 t0_0) fullShare X : sProp 𝕄) = pt (F := F) c (Memref.whole cc0_stg14_0) X := owns_whole _ _ _ _
/-- Window 15's staging buffer, held whole. -/
theorem own_15 (c : Dev nD) (X) :
    (owns (c : Thread nD τ) (st0_15 t0_0) fullShare X : sProp 𝕄) = pt (F := F) c (Memref.whole cc0_stg15_0) X := owns_whole _ _ _ _
/-- Window 16's staging buffer, held whole. -/
theorem own_16 (c : Dev nD) (X) :
    (owns (c : Thread nD τ) (st0_16 t0_0) fullShare X : sProp 𝕄) = pt (F := F) c (Memref.whole cc0_stg16_0) X := owns_whole _ _ _ _
/-- Window 17's staging buffer, held whole. -/
theorem own_17 (c : Dev nD) (X) :
    (owns (c : Thread nD τ) (st0_17 t0_0) fullShare X : sProp 𝕄) = pt (F := F) c (Memref.whole cc0_stg17_0) X := owns_whole _ _ _ _
/-- Window 18's staging buffer, held whole. -/
theorem own_18 (c : Dev nD) (X) :
    (owns (c : Thread nD τ) (st0_18 t0_0) fullShare X : sProp 𝕄) = pt (F := F) c (Memref.whole cc0_stg18_0) X := owns_whole _ _ _ _

set_option maxHeartbeats 4000000 in
/-- The body at the point: the inputs' buffers hold their blocks, so the run applies, and what it leaves does not depend on
    what the buffers it overwrites held. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t0_0.succ = (dats m 0 c).Φ t0_0.castSucc from rfl,
    show (dats m 0 c).owesAt () t0_0.succ = (dats m 0 c).owesAt () t0_0.castSucc from rfl,
    show (dats m 0 c).Φ t0_0.castSucc = Pipeline.ΦA spec0 c from rfl,
    after0_0, after0_1, after0_2, after0_3, after0_4, after0_5, after0_6, after0_7, after0_8, after0_9, after0_10, after0_11, after0_12, after0_13, after0_14, after0_15, after0_16, after0_17, after0_18]
  unfold Pipeline.ΦA
  rw [scopedRest0_eq]
  simp only [own_0, own_1, own_2, own_3, own_4, own_5, own_6, own_7, own_8, own_9, own_10, own_11, own_12, own_13, own_14, own_15, own_16, own_17, own_18]
  iintro ⟨⟨⟨⟨%f19, H19⟩, ⟨%f20, H20⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun c Set.univ (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) ((dats m 0 c).before 18 t0_0 d18) f19 f20).2 _)
  rw [run_result]
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexact H18
  isplitl [H19]; · iexact H19
  isplitl [H20]; · iexact H20
  iintro ⟨⟨H0, H1, H2, H3, H4, H5, H6, H7, H8, H9, H10, H11, H12, H13, H14, H15, H16, H17⟩, H18, H19, H20⟩
  isplitl [H19 H20 Hg]
  · isplitl [H19 H20]
    · isplitl [H19]; · iexact H19
      iexact H20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at the point's slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation at the one point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion, which unfolds plain definitions in types
set_option backward.isDefEq.respectTransparency.types false in
/-- Every run of the program ends, with the pipeline's arrays at what the proof data computes and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same, the arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Reading.lean ====
/-
  Readings at an index, over the extended reals: the plain matrix product, row sums, column vectors and rows spread over a matrix,
  a block taken from an array through a rectangle, sums over a product range, and the zero-one values comparisons convert to.
-/
module

public import Idealize.ShloMosaic.Lib.Pipeline.Value
public import Idealize.ShloMosaic.Lib.ValueIdx
public import Idealize.ShloMosaic.PureOps.Ideal.Laws

@[expose] public section

noncomputable section

open scoped BigOperators

namespace Cert.Values

open Idealize.ShloMosaic Idealize.ShloMosaic.ValueIdx

/-- A plain matrix product into a zero accumulator, read at an index: the sum over the shared axis. -/
theorem matmul_plain {n k m : ℕ} {φ₁ φ₂ : FTy} (prec : Option ContractPrecision)
    (l : FVec Ideal ⟨2, ![n, k]⟩ φ₁) (r : FVec Ideal ⟨2, ![k, m]⟩ φ₂) (p : Fin n) (q : Fin m) :
    matmul (DotDims.plain n k m) prec l r (constant ⟨2, ![n, m]⟩ .f32 0x00000000#32) (ix2 p q)
      = ∑ x : Fin k, l (ix2 p x) * r (ix2 x q) := by
  simp only [matmul]
  rw [Ideal.matmul_constant_zero_apply, ← Equiv.sum_comp (contrEquiv1 (DotDims.plain n k m) k rfl rfl).symm]
  refine Finset.sum_congr rfl fun x _ => ?_
  have hx := contrEquiv1_symm_val (DotDims.plain n k m) k rfl rfl x
  congr 2
  · funext a; match a with
    | ⟨0, _⟩ => rfl
    | ⟨1, _⟩ => exact Fin.ext hx
  · funext a; match a with
    | ⟨0, _⟩ => exact Fin.ext hx
    | ⟨1, _⟩ => rfl

/-- The same for any dimension numbers that are the plain ones. -/
theorem matmul_ix {n k m : ℕ} {φ₁ φ₂ : FTy} {d : DotDims ⟨2, ![n, k]⟩ ⟨2, ![k, m]⟩ ⟨2, ![n, m]⟩} (hd : d = DotDims.plain n k m)
    (prec : Option ContractPrecision) (l : FVec Ideal ⟨2, ![n, k]⟩ φ₁) (r : FVec Ideal ⟨2, ![k, m]⟩ φ₂) (p : Fin n) (q : Fin m) :
    matmul d prec l r (constant ⟨2, ![n, m]⟩ .f32 0x00000000#32) (ix2 p q) = ∑ x : Fin k, l (ix2 p x) * r (ix2 x q) := by
  subst hd; exact matmul_plain prec l r p q

/-- A row sum of a matrix. -/
theorem rowSum_ix {n k : ℕ} (x : FVec Ideal ⟨2, ![n, k]⟩ .f32) (h : (⟨2, ![n, k]⟩ : Shape).Reduces [1] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ w : Fin k, x (ix2 p w) := by
  rw [Ideal.multiReduction_add_single x _ h hφ hacc]
  refine Finset.sum_congr rfl fun w _ => congrArg x ?_
  funext a; match a with
  | ⟨0, _⟩ => rfl
  | ⟨1, _⟩ => rfl

/-- A row's maximum, folded from the accumulator's value. -/
theorem rowMax_ix {n k : ℕ} (x : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ x 0xFF800000#32 h hφ hacc (ix1 p)
      = (Finset.univ : Finset (Fin k)).fold max (Ideal.ofBits .f32 0xFF800000#32) fun w => x (ix2 p w) := by
  rw [Ideal.multiReduction_maximumf_single x _ h hφ hacc]
  refine congrArg (Finset.fold max _ · _) ?_
  funext w; refine congrArg x ?_
  funext a; match a with
  | ⟨0, _⟩ => rfl
  | ⟨1, _⟩ => rfl

/-- A vector stood up as a column. -/
theorem column_ix {n : ℕ} {α : Type} (x : (⟨1, ![n]⟩ : Shape).Idx → α) (h : (⟨1, ![n]⟩ : Shape).ShapeCasts ⟨2, ![n, 1]⟩) (p : Fin n)
    (q : Fin 1) : shapeCast ⟨2, ![n, 1]⟩ x h (ix2 p q) = x (ix1 p) := by
  refine shapeCast_apply x h (ix2 p q) (ix1 p) ?_
  rw [Shape.rowMajor_val_one, Shape.rowMajor_val_two]
  show p.val = p.val * 1 + q.val
  omega

/-- A column spread over a matrix's columns. -/
theorem spreadColumn_ix {n k : ℕ} {α : Type} (x : (⟨2, ![n, 1]⟩ : Shape).Idx → α)
    (h : (⟨2, ![n, 1]⟩ : Shape).Broadcasts ⟨2, ![n, k]⟩) (hn : n ≠ 1) (p : Fin n) (q : Fin k) :
    broadcastTo ⟨2, ![n, k]⟩ x h (ix2 p q) = x (ix2 p 0) := by
  refine broadcastTo_apply x h (ix2 p q) (ix2 p 0) fun a => ?_
  match a with
  | ⟨0, _⟩ => exact (if_neg hn).symm
  | ⟨1, _⟩ => exact (if_pos rfl).symm

/-- A row spread over a matrix's rows. -/
theorem spreadRow_ix {n k : ℕ} {α : Type} (x : (⟨2, ![1, k]⟩ : Shape).Idx → α)
    (h : (⟨2, ![1, k]⟩ : Shape).Broadcasts ⟨2, ![n, k]⟩) (hk : k ≠ 1) (p : Fin n) (q : Fin k) :
    broadcastTo ⟨2, ![n, k]⟩ x h (ix2 p q) = x (ix2 0 q) := by
  refine broadcastTo_apply x h (ix2 p q) (ix2 0 q) fun a => ?_
  match a with
  | ⟨0, _⟩ => exact (if_pos rfl).symm
  | ⟨1, _⟩ => exact (if_neg hk).symm

/-- A sum over a range of products is the double sum over quotient and remainder. -/
theorem sum_split {M : Type*} [AddCommMonoid M] (a b : ℕ) {n : ℕ} (hn : n = a * b) (f : Fin n → M) :
    ∑ x, f x = ∑ i : Fin a, ∑ j : Fin b, f ⟨b * i.val + j.val, by
      subst hn; have hi := i.isLt; have hj := j.isLt
      calc b * i.val + j.val < b * i.val + b := by omega
        _ = b * (i.val + 1) := by ring
        _ ≤ b * a := Nat.mul_le_mul_left _ hi
        _ = a * b := Nat.mul_comm _ _⟩ := by
  subst hn
  rw [← Equiv.sum_comp finProdFinEquiv f, Fintype.sum_prod_type]
  refine Finset.sum_congr rfl fun i _ => Finset.sum_congr rfl fun j _ => congrArg f (Fin.ext ?_)
  simp [finProdFinEquiv, Nat.add_comm]

/-- A truth value as the extended real a comparison's bit converts to. -/
def ind (b : Prop) [Decidable b] : EReal := if b then 1 else 0

/-- A factor times an indicator: the factor where it holds, zero elsewhere. -/
theorem ind_mul (b : Prop) [Decidable b] (x : EReal) : x * ind b = if b then x else 0 := by
  unfold ind; split <;> simp

/-- Equivalent conditions have one indicator. -/
theorem ind_congr {a b : Prop} [Decidable a] [Decidable b] (h : a ↔ b) : ind a = ind b := by
  unfold ind; simp only [h]

/-- The indicator of what holds. -/
theorem ind_true {a : Prop} [Decidable a] (h : a) : ind a = 1 := if_pos h
/-- The indicator of what does not hold. -/
theorem ind_false {a : Prop} [Decidable a] (h : ¬a) : ind a = 0 := if_neg h

/-- The row number of a matrix position. -/
theorem iotaRow_ix {n k : ℕ} (h : (⟨2, ![n, k]⟩ : Shape).Iotas .tc 32 [0]) (p : Fin n) (q : Fin k) :
    iota .tc ⟨2, ![n, k]⟩ 32 [0] h (ix2 p q) = BitVec.ofNat 32 p.val := iota_single_apply _ _ _ _ _ _

/-- The column number of a matrix position. -/
theorem iotaColumn_ix {n k : ℕ} (h : (⟨2, ![n, k]⟩ : Shape).Iotas .tc 32 [1]) (p : Fin n) (q : Fin k) :
    iota .tc ⟨2, ![n, k]⟩ 32 [1] h (ix2 p q) = BitVec.ofNat 32 q.val := iota_single_apply _ _ _ _ _ _

/-- A bit widened and converted is zero or one. -/
theorem bit_ind (b : BitVec 1) : (FloatOps.sitofp (F := Ideal) .f32 (b.setWidth 32) : EReal) = ind (b = 1#1) := by
  show (((b.setWidth 32).toInt : ℝ) : EReal) = _
  unfold ind
  rcases (show b = 0#1 ∨ b = 1#1 by revert b; decide) with rfl | rfl
  · rw [if_neg (by decide)]; simp
  · rw [if_pos rfl]; simp

/-- The bit of a decided truth value. -/
theorem ofBool_decide_eq_one (b : Prop) [Decidable b] : BitVec.ofBool (decide b) = 1#1 ↔ b := by
  by_cases h : b <;> simp [h]

end Cert.Values

end
-- ==== Proof.Patterns.lean ====
/-
  The integer patterns of the kernel as zero-one matrices, and the words of the degrees as numbers.
-/
module

public import proofs.«01_k».proof.Proof.Reading
public import proofs.«01_k».proof.Proof.KernelIdealStages

@[expose] public section

noncomputable section

open scoped BigOperators

namespace Cert.Values

open Idealize.ShloMosaic Idealize.ShloMosaic.ValueIdx
open Cert.KernelIdeal Cert.KernelIdeal.Gen Cert.KernelIdeal.Hand

/-- A word divided by a positive word, rounded down, as the kernel spells it over signed words. -/
def floorDiv (n x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32))) 1#32)
      (IntOp.cmpi .ne (IntOp.remsi .vector x n) 0#32))
    (IntOp.subi (IntOp.divsi .vector x n) 1#32) (IntOp.divsi .vector x n)

/-- The remainder that goes with it. -/
def floorRem (n x : BitVec 32) : BitVec 32 :=
  Scalar.select
    (IntOp.andi (IntOp.xori (IntOp.cmpi .slt (IntOp.remsi .vector x n) 0#32) (IntOp.cmpi .slt n 0#32))
      (IntOp.cmpi .ne (IntOp.remsi .vector x n) 0#32))
    (IntOp.addi (IntOp.remsi .vector x n) n) (IntOp.remsi .vector x n)

/-- Division by 32, rounded down, on the words of the numbers below 256. -/
theorem floorDiv_32 (x : Fin 256) : floorDiv 32#32 (BitVec.ofNat 32 x.val) = BitVec.ofNat 32 (x.val / 32) := by
  revert x; decide +kernel

/-- Division by 16, rounded down, on the words of the numbers below 512. -/
theorem floorDiv_16 (x : Fin 512) : floorDiv 16#32 (BitVec.ofNat 32 x.val) = BitVec.ofNat 32 (x.val / 16) := by
  revert x; decide +kernel

/-- The remainder by 32 on the words of the numbers below 256. -/
theorem floorRem_32 (x : Fin 256) : floorRem 32#32 (BitVec.ofNat 32 x.val) = BitVec.ofNat 32 (x.val % 32) := by
  revert x; decide +kernel

/-- The remainder by 16 on the words of the numbers below 512. -/
theorem floorRem_16 (x : Fin 512) : floorRem 16#32 (BitVec.ofNat 32 x.val) = BitVec.ofNat 32 (x.val % 16) := by
  revert x; decide +kernel

/-- Small numbers compare as their words do. -/
theorem cmpi_ofNat (a b : ℕ) (ha : a < 512) (hb : b < 512) : IntOp.cmpi .eq (BitVec.ofNat 32 a) (BitVec.ofNat 32 b) = 1#1 ↔ a = b := by
  unfold IntOp.cmpi
  constructor
  · intro h
    have h1 : BitVec.ofNat 32 a = BitVec.ofNat 32 b := by
      by_contra hne
      simp only [beq_eq_false_iff_ne.mpr hne] at h
      exact absurd h (by decide)
    have h2 := congrArg BitVec.toNat h1
    simpa [BitVec.toNat_ofNat, Nat.mod_eq_of_lt (show a < 4294967296 by omega), Nat.mod_eq_of_lt (show b < 4294967296 by omega)] using h2
  · rintro rfl; simp

/-- A small number's word converts to the number. -/
theorem sitofp_ofNat (a : ℕ) (ha : a < 512) : (FloatOps.sitofp (F := Ideal) .f32 (BitVec.ofNat 32 a) : EReal) = ((a : ℝ) : EReal) := by
  show (((BitVec.ofNat 32 a).toInt : ℝ) : EReal) = _
  have : (BitVec.ofNat 32 a).toInt = (a : ℤ) := by
    rw [BitVec.toInt_eq_toNat_cond, BitVec.toNat_ofNat, Nat.mod_eq_of_lt (show a < 2 ^ 32 by omega), if_pos (by omega)]
  rw [this]; simp

/-- The matrix that repeats 32 columns eight times. -/
theorem pay11_ix (w : Fin 32) (c : Fin 256) : k0_pay11 (F := Ideal) (ix2 w c) = ind (c.val % 32 = w.val) := by
  unfold k0_pay11
  dsimp only
  rw [truncf_apply, sitofp_apply, extui_apply, bit_ind]
  refine ind_congr ?_
  simp only [cmpi, select, andi, xori, addi, remsi, broadcast, broadcastTo]
  rw [iotaRow_ix, iotaColumn_ix]
  change IntOp.cmpi .eq (floorRem 32#32 (BitVec.ofNat 32 c.val)) (BitVec.ofNat 32 w.val) = 1#1 ↔ _
  rw [floorRem_32, cmpi_ofNat _ _ (by omega) (by omega)]

/-- The block-diagonal pattern. -/
theorem sameBlock_ix (r c : Fin 256) : sameBlock (F := Ideal) (ix2 r c) = ind (r.val / 32 = c.val / 32) := by
  unfold sameBlock k0_pay14
  dsimp only
  rw [truncf_apply, sitofp_apply, extui_apply, bit_ind]
  refine ind_congr ?_
  simp only [k0_pay12, k0_pay13, cmpi, select, andi, subi, addi, remsi, divsi, extui, broadcast]
  rw [iotaRow_ix, iotaColumn_ix]
  change IntOp.cmpi .eq (floorDiv 32#32 (BitVec.ofNat 32 r.val)) (floorDiv 32#32 (BitVec.ofNat 32 c.val)) = 1#1 ↔ _
  rw [floorDiv_32, floorDiv_32, cmpi_ofNat _ _ (by omega) (by omega)]

/-- The lane pattern: which of the eight repetitions a lane belongs to. -/
theorem lanePat_ix (l : Fin 128) : lanePat (F := Ideal) (ix2 0 l) = (((l.val / 16 : ℕ) : ℝ) : EReal) := by
  unfold lanePat k0_pay68
  dsimp only
  rw [sitofp_apply]
  simp only [k0_pay66, k0_pay67, cmpi, select, andi, subi, addi, remsi, divsi, extui, broadcast]
  rw [iotaColumn_ix]
  change FloatOps.sitofp (F := Ideal) .f32 (floorDiv 16#32 (BitVec.ofNat 32 l.val)) = _
  rw [floorDiv_16 ⟨l.val, by omega⟩, sitofp_ofNat _ (by dsimp only; omega)]

/-- The matrix that repeats 16 columns eight times. -/
theorem pay65_ix (j : Fin 16) (l : Fin 128) : k0_pay65 (F := Ideal) (ix2 j l) = ind (l.val % 16 = j.val) := by
  unfold k0_pay65
  dsimp only
  rw [truncf_apply, sitofp_apply, extui_apply, bit_ind]
  refine ind_congr ?_
  simp only [cmpi, select, andi, xori, addi, remsi, broadcast, broadcastTo]
  rw [iotaRow_ix, iotaColumn_ix]
  change IntOp.cmpi .eq (floorRem 16#32 (BitVec.ofNat 32 l.val)) (BitVec.ofNat 32 j.val) = 1#1 ↔ _
  rw [floorRem_16 ⟨l.val, by omega⟩, cmpi_ofNat _ _ (by dsimp only; omega) (by omega)]

/-- The edge sums: each neighbour's weight against its sixteen lanes, the lanes then added up by remainder. -/
theorem edgeSum_raw (g : Vec Ideal S2048x32 .f32) (e : Vec Ideal S2048x512 .f32) (p : Fin 2048) (j : Fin 16) :
    edgeSum g e (ix2 p j)
      = ∑ l : Fin 512, ((∑ w : Fin 32, g (ix2 p w) * ind (l.val / 16 = w.val)) * e (ix2 p l)) * ind (l.val % 16 = j.val) := by
  unfold edgeSum k0_pay27 k0_pay1
  dsimp only
  rw [whole_eq, whole_eq, shapeCast_self, shapeCast_self, truncf_apply, matmul_ix (d := dot_S2048x512_S512x16_S2048x16_1_0_0_1_n_n) rfl]
  refine Finset.sum_congr rfl fun l _ => ?_
  rw [mulf_apply, truncf_apply, truncf_apply, matmul_ix (d := dot_S2048x32_S32x512_S2048x512_1_0_0_1_n_n) rfl, truncf_apply, sitofp_apply, extui_apply, bit_ind]
  refine congrArg₂ (· * ·) (congrArg (· * e (ix2 p l)) (Finset.sum_congr rfl fun w _ => ?_)) (ind_congr ?_)
  · rw [truncf_apply, truncf_apply, sitofp_apply, extui_apply, bit_ind]
    refine congrArg (g (ix2 p w) * ·) (ind_congr ?_)
    simp only [k0_pay25, k0_pay26, cmpi, select, andi, subi, addi, remsi, divsi, extui, broadcast]
    rw [iotaRow_ix, iotaColumn_ix]
    change IntOp.cmpi .eq (floorDiv 16#32 (BitVec.ofNat 32 l.val)) (BitVec.ofNat 32 w.val) = 1#1 ↔ _
    rw [floorDiv_16, cmpi_ofNat _ _ (by omega) (by omega)]
  · simp only [cmpi, select, andi, xori, addi, remsi, broadcast, broadcastTo]
    rw [iotaRow_ix, iotaColumn_ix]
    change IntOp.cmpi .eq (floorRem 16#32 (BitVec.ofNat 32 l.val)) (BitVec.ofNat 32 j.val) = 1#1 ↔ _
    rw [floorRem_16, cmpi_ofNat _ _ (by omega) (by omega)]

/-- The float words of the numbers 0 to 32. -/
def wordOf : Fin 33 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32,
    0x41800000#32, 0x41880000#32, 0x41900000#32, 0x41980000#32, 0x41A00000#32, 0x41A80000#32, 0x41B00000#32, 0x41B80000#32,
    0x41C00000#32, 0x41C80000#32, 0x41D00000#32, 0x41D80000#32, 0x41E00000#32, 0x41E80000#32, 0x41F00000#32, 0x41F80000#32,
    0x42000000#32]

/-- Each denotes its number. -/
theorem ofBits_wordOf (d : Fin 33) : Ideal.ofBits .f32 (wordOf d) = ((d.val : ℝ) : EReal) := by
  fin_cases d <;> simp [wordOf, Ideal.ofBits, Ideal.ieee] <;> norm_num <;> (rw [← EReal.coe_mul]; norm_num)

end Cert.Values

end
-- ==== Proof.Pieces.lean ====
/-
  The kernel's stages read at an index over the extended reals: the neighbour and edge sums, the degrees, the masked pieces, the
  weight rows, and what each matrix product of a layer adds to the accumulator.
-/
module

public import proofs.«01_k».proof.Proof.Patterns

@[expose] public section

noncomputable section

open scoped BigOperators

namespace Cert.Values

open Idealize.ShloMosaic Idealize.ShloMosaic.ValueIdx
open Cert.KernelIdeal Cert.KernelIdeal.Gen Cert.KernelIdeal.Hand

/-! ## The neighbour sums -/

/-- Row `r` of the `k`-th group of 256 rows. -/
abbrev rowOf (k : Fin 8) (r : Fin 256) : Fin 2048 := ⟨256 * k.val + r.val, by omega⟩

/-- The `w`-th node of the graph that node `p` belongs to. -/
abbrev nbr (p : Fin 2048) (w : Fin 32) : Fin 2048 := ⟨32 * (p.val / 32) + w.val, by omega⟩

/-- Lane `j` of neighbour `w` in an edge row. -/
abbrev lane (w : Fin 32) (j : Fin 16) : Fin 512 := ⟨16 * w.val + j.val, by omega⟩

/-- The block-diagonal matrix of a group of rows. -/
theorem adjBlock_ix (g : Vec Ideal S2048x32 .f32) (k : Fin 8) (r c : Fin 256) :
    adjBlock g k (ix2 r c) = if r.val / 32 = c.val / 32 then g (ix2 (rowOf k r) ⟨c.val % 32, by omega⟩) else 0 := by
  unfold adjBlock k0_pay24
  dsimp only
  rw [shapeCast_self, shapeCast_self, mulf_apply, truncf_apply, sameBlock_ix, ind_mul,
    matmul_ix (d := dot_S256x32_S32x256_S256x256_1_0_0_1_n_n) rfl]
  refine if_congr Iff.rfl ?_ rfl
  rw [Finset.sum_eq_single (⟨c.val % 32, by omega⟩ : Fin 32)]
  · rw [pay11_ix, ind_true rfl, mul_one, truncf_apply, View.ld_unit]
    refine extractStridedSlice_apply _ _ _ _ _ fun a => ?_
    match a with
    | ⟨0, _⟩ => rfl
    | ⟨1, _⟩ => exact (Nat.zero_add _).symm
  · intro w _ hw
    rw [pay11_ix, ind_false (fun h => hw (Fin.ext h.symm)), mul_zero]
  · exact fun h => absurd (Finset.mem_univ _) h

/-- The neighbour sums of one group of rows. -/
theorem sumBlock_ix (g : Vec Ideal S2048x32 .f32) (h : FVec Ideal S2048x128 .f32) (k : Fin 8) (r : Fin 256) (i : Fin 128) :
    sumBlock g h k (ix2 r i) = ∑ w : Fin 32, g (ix2 (rowOf k r) w) * h (ix2 (nbr (rowOf k r) w) i) := by
  unfold sumBlock
  rw [matmul_ix (d := dot_S256x256_S256x128_S256x128_1_0_0_1_n_n) rfl, sum_split 8 32 rfl, Finset.sum_eq_single (⟨r.val / 32, by omega⟩ : Fin 8)]
  · refine Finset.sum_congr rfl fun w _ => ?_
    rw [adjBlock_ix, if_pos (by dsimp only; omega)]
    refine congrArg₂ (· * ·) (congrArg g (congrArg (ix2 _) (Fin.ext (by dsimp only; omega)))) ?_
    rw [extractStridedSlice_apply (k := ix2 (nbr (rowOf k r) w) i) _ _ _ _ (fun a => ?_), truncf_apply]
    match a with
    | ⟨0, _⟩ => show 32 * ((256 * k.val + r.val) / 32) + w.val = 256 * k.val + (32 * (r.val / 32) + w.val); omega
    | ⟨1, _⟩ => exact (Nat.zero_add _).symm
  · intro a _ ha
    refine Finset.sum_eq_zero fun w _ => ?_
    rw [adjBlock_ix, if_neg (fun h => ha (Fin.ext (by dsimp only at h ⊢; omega))), zero_mul]
  · exact fun h => absurd (Finset.mem_univ _) h

/-- The neighbour sums: each node adds the values of its graph's nodes, weighted by its adjacency row. -/
theorem nodeSum_ix (g : Vec Ideal S2048x32 .f32) (h : FVec Ideal S2048x128 .f32) (p : Fin 2048) (i : Fin 128) :
    nodeSum g h (ix2 p i) = ∑ w : Fin 32, g (ix2 p w) * h (ix2 (nbr p w) i) := by
  unfold nodeSum
  rw [truncf_apply]
  refine (concatenate_ofFn_apply (s₁ := S256x128) (t := S2048x128) 0 (fun k : Fin 8 => sumBlock g h k) _ rfl 256 rfl (ix2 p i) ⟨p.val / 256, by omega⟩ rfl
    (ix2 ⟨p.val % 256, by omega⟩ i) rfl (fun b hb => ?_)).trans ?_
  · match b with
    | ⟨0, _⟩ => exact absurd rfl hb
    | ⟨1, _⟩ => rfl
  · rw [sumBlock_ix]
    have hp : rowOf ⟨p.val / 256, by omega⟩ ⟨p.val % 256, by omega⟩ = p := Fin.ext (by dsimp only; omega)
    rw [hp]

/-- The edge sums: each node adds its edges' values, weighted by its adjacency row. -/
theorem edgeSum_ix (g : Vec Ideal S2048x32 .f32) (e : Vec Ideal S2048x512 .f32) (p : Fin 2048) (j : Fin 16) :
    edgeSum g e (ix2 p j) = ∑ w : Fin 32, g (ix2 p w) * e (ix2 p (lane w j)) := by
  rw [edgeSum_raw, sum_split 32 16 rfl]
  refine Finset.sum_congr rfl fun w _ => ?_
  rw [Finset.sum_eq_single j]
  · rw [ind_true (by dsimp only; omega), mul_one]
    refine congrArg (· * e (ix2 p (lane w j))) ?_
    rw [Finset.sum_eq_single w]
    · rw [ind_true (by dsimp only; omega), mul_one]
    · intro v _ hv
      rw [ind_false (fun h => hv (Fin.ext (by dsimp only at h; omega))), mul_zero]
    · exact fun h => absurd (Finset.mem_univ _) h
  · intro i _ hi
    rw [ind_false (fun h => hi (Fin.ext (by dsimp only at h; omega))), mul_zero]
  · exact fun h => absurd (Finset.mem_univ _) h

/-! ## The degrees -/

/-- The degree column: the row sums, capped at 32. -/
theorem degree_ix (g : Vec Ideal S2048x32 .f32) (p : Fin 2048) (q : Fin 1) :
    k0_pay2 (whole g) (ix2 p q) = min (∑ w : Fin 32, g (ix2 p w)) (((32 : ℕ) : ℝ) : EReal) := by
  unfold k0_pay2 k0_pay1
  dsimp only
  rw [whole_eq, shapeCast_self, minimumf_apply, column_ix]
  exact congrArg₂ min (rowSum_ix _ _ _ _ _) (ofBits_wordOf 32)

/-- The row sums are the natural numbers `n`, none above 32. -/
def Degrees (g : Vec Ideal S2048x32 .f32) (n : Fin 2048 → ℕ) : Prop :=
  ∀ p, n p ≤ 32 ∧ ∑ w : Fin 32, g (ix2 p w) = ((n p : ℝ) : EReal)

variable {g : Vec Ideal S2048x32 .f32} {n : Fin 2048 → ℕ}

/-- The kernel's degree column holds the degrees. -/
theorem Degrees.degree (hn : Degrees g n) (p : Fin 2048) (q : Fin 1) : k0_pay2 (whole g) (ix2 p q) = ((n p : ℝ) : EReal) := by
  rw [degree_ix, (hn p).2]
  exact min_eq_left (EReal.coe_le_coe_iff.mpr (by exact_mod_cast (hn p).1))

/-- The mask of one degree. -/
theorem Degrees.mask (hn : Degrees g n) (d : Fin 33) (p : Fin 2048) (q : Fin 1) :
    degMask g (wordOf d) (ix2 p q) = ind (n p = d.val) := by
  unfold degMask
  rw [truncf_apply, sitofp_apply, extui_apply, bit_ind]
  refine ind_congr ?_
  rw [cmpf_apply, hn.degree, broadcast_apply]
  change BitVec.ofBool (decide (((n p : ℝ) : EReal) = Ideal.ofBits .f32 (wordOf d))) = 1#1 ↔ _
  rw [ofBool_decide_eq_one, ofBits_wordOf, EReal.coe_eq_coe_iff]
  exact Nat.cast_inj

/-- The neighbour sums kept at one degree. -/
theorem Degrees.nodePiece (hn : Degrees g n) (s : FVec Ideal S2048x128 .bf16) (d : Fin 33) (p : Fin 2048) (i : Fin 128) :
    nodePiece g s (wordOf d) (ix2 p i) = if n p = d.val then s (ix2 p i) else 0 := by
  unfold Hand.nodePiece
  rw [mulf_apply, spreadColumn_ix _ _ (by decide), hn.mask, ind_mul]

/-- The edge sums kept at degree 32. -/
theorem Degrees.edgeLast (hn : Degrees g n) (u : FVec Ideal S2048x16 .bf16) (p : Fin 2048) (j : Fin 16) :
    edgeLast g u (ix2 p j) = if n p = 32 then u (ix2 p j) else 0 := by
  unfold Hand.edgeLast
  rw [mulf_apply, spreadColumn_ix _ _ (by decide)]
  refine (congrArg (u (ix2 p j) * ·) (hn.mask 32 p 0)).trans ?_
  rw [ind_mul]; rfl

/-- The edge sums repeated along the lanes, each repetition kept at its own degree, counted from `c`. -/
theorem Degrees.edgePiece (hn : Degrees g n) (u : FVec Ideal S2048x16 .bf16) (c : Fin 33) (p : Fin 2048) (l : Fin 128) :
    edgePiece g u (wordOf c) (ix2 p l) = if n p = c.val + l.val / 16 then u (ix2 p ⟨l.val % 16, by omega⟩) else 0 := by
  unfold Hand.edgePiece k0_pay69
  dsimp only
  rw [mulf_apply, truncf_apply, truncf_apply, sitofp_apply, extui_apply, bit_ind, ind_mul,
    matmul_ix (d := dot_S2048x16_S16x128_S2048x128_1_0_0_1_n_n) rfl]
  refine if_congr ?_ ?_ rfl
  · rw [cmpf_apply, spreadColumn_ix _ _ (by decide), spreadRow_ix _ _ (by decide), lanePat_ix, subf_apply, hn.degree, broadcast_apply]
    change BitVec.ofBool (decide (((n p : ℝ) : EReal) - Ideal.ofBits .f32 (wordOf c) = _)) = 1#1 ↔ _
    rw [ofBool_decide_eq_one, ofBits_wordOf, ← EReal.coe_sub, EReal.coe_eq_coe_iff, sub_eq_iff_eq_add]
    constructor
    · intro h; have : n p = l.val / 16 + c.val := by exact_mod_cast h
      omega
    · intro h; rw [h]; push_cast; ring
  · rw [Finset.sum_eq_single (⟨l.val % 16, by omega⟩ : Fin 16)]
    · rw [pay65_ix, ind_true rfl, mul_one]
    · intro j _ hj
      rw [pay65_ix, ind_false (fun h => hj (Fin.ext h.symm)), mul_zero]
    · exact fun h => absurd (Finset.mem_univ _) h

/-! ## The weight rows -/

/-- Entry `i` of degree `d`'s node rows. -/
theorem nodeRows_ix (H : Vec Ideal S33x144x128 .f32) (d : Fin 33) (i o : Fin 128) :
    nodeRows H d (ix2 i o) = H (ix3 d ⟨i.val, by omega⟩ o) := by
  unfold nodeRows
  rw [shapeCast_apply (k := ix3 0 i o) _ _ _ (by rw [Shape.rowMajor_val_three, Shape.rowMajor_val_two]; show (0 * 128 + i.val) * 128 + o.val = i.val * 128 + o.val; omega),
    View.ld_unit]
  refine extractStridedSlice_apply _ _ _ _ _ fun a => ?_
  match a with
  | ⟨0, _⟩ => rfl
  | ⟨1, _⟩ => exact (Nat.zero_add _).symm
  | ⟨2, _⟩ => exact (Nat.zero_add _).symm

/-- Entry `j` of degree `d`'s edge rows. -/
theorem edgeRows_ix (H : Vec Ideal S33x144x128 .f32) (d : Fin 33) (j : Fin 16) (o : Fin 128) :
    edgeRows H d (ix2 j o) = H (ix3 d ⟨128 + j.val, by omega⟩ o) := by
  unfold edgeRows
  rw [shapeCast_apply (k := ix3 0 j o) _ _ _ (by rw [Shape.rowMajor_val_three, Shape.rowMajor_val_two]; show (0 * 16 + j.val) * 128 + o.val = j.val * 128 + o.val; omega),
    View.ld_unit]
  refine extractStridedSlice_apply _ _ _ _ _ fun a => ?_
  match a with
  | ⟨0, _⟩ => rfl
  | ⟨1, _⟩ => rfl
  | ⟨2, _⟩ => exact (Nat.zero_add _).symm

end Cert.Values

end
-- ==== Proof.Accum.lean ====
/-
  One layer's accumulator over the extended reals: whatever branches are taken, node `p` of degree `d` receives its neighbour sum
  times degree `d`'s node rows plus its edge sum times degree `d`'s edge rows.
-/
module

public import proofs.«01_k».proof.Proof.Pieces

@[expose] public section

noncomputable section

open scoped BigOperators

namespace Cert.Values

open Idealize.ShloMosaic Idealize.ShloMosaic.ValueIdx
open Cert.KernelIdeal Cert.KernelIdeal.Gen Cert.KernelIdeal.Hand

/-! ## The extremes of a column -/

/-- The smallest entry of a column is at most each entry. -/
theorem columnMin_le (x : FVec Ideal S2048x1 .f32) (p : Fin 2048) (j : S1.Idx) :
    multiReduction .minimumf [1, 2] S1 (shapeCast S1x2048x1 x shapeCasts_S2048x1_S1x2048x1) 0x7F800000#32 reduces_S1x2048x1_S1 (.inl rfl) rfl j
      ≤ x (ix2 p 0) := by
  refine (le_of_eq (multiReduction_minimumf_eq_fold _ _ _ _ _ _)).trans ?_
  refine (Finset.fold_min_le _).mpr (.inr ⟨ix3 0 p 0, Finset.mem_filter.mpr ⟨Finset.mem_univ _, ?_⟩, ?_⟩)
  · funext a; match a with
    | ⟨0, _⟩ => exact Subsingleton.elim (α := Fin 1) _ _
  · rw [shapeCast_apply (k := ix2 p 0) _ _ _ (by rw [Shape.rowMajor_val_three, Shape.rowMajor_val_two]; show p.val * 1 + 0 = (0 * 2048 + p.val) * 1 + 0; omega)]

/-- The largest entry of a column is at least each entry. -/
theorem le_columnMax (x : FVec Ideal S2048x1 .f32) (p : Fin 2048) (j : S1.Idx) :
    x (ix2 p 0) ≤ multiReduction .maximumf [1, 2] S1 (shapeCast S1x2048x1 x shapeCasts_S2048x1_S1x2048x1) 0xFF800000#32 reduces_S1x2048x1_S1 (.inl rfl) rfl j := by
  refine le_trans ?_ (ge_of_eq (multiReduction_maximumf_eq_fold _ _ _ _ _ _))
  refine (Finset.le_fold_max _).mpr (.inr ⟨ix3 0 p 0, Finset.mem_filter.mpr ⟨Finset.mem_univ _, ?_⟩, ?_⟩)
  · funext a; match a with
    | ⟨0, _⟩ => exact Subsingleton.elim (α := Fin 1) _ _
  · rw [shapeCast_apply (k := ix2 p 0) _ _ _ (by rw [Shape.rowMajor_val_three, Shape.rowMajor_val_two]; show p.val * 1 + 0 = (0 * 2048 + p.val) * 1 + 0; omega)]

/-- The largest entry of a column is at most a bound of all its entries. -/
theorem columnMax_le (x : FVec Ideal S2048x1 .f32) (b : EReal) (hb : ∀ p, x (ix2 p 0) ≤ b) (j : S1.Idx) :
    multiReduction .maximumf [1, 2] S1 (shapeCast S1x2048x1 x shapeCasts_S2048x1_S1x2048x1) 0xFF800000#32 reduces_S1x2048x1_S1 (.inl rfl) rfl j ≤ b := by
  refine (le_of_eq (multiReduction_maximumf_eq_fold _ _ _ _ _ _)).trans ?_
  refine (Finset.fold_max_le _).mpr ⟨?_, fun i _ => ?_⟩
  · refine le_trans (le_of_eq ?_) bot_le
    simp [FloatOps.ofBits, Ideal.ofBits, Ideal.ieee]
  · refine le_trans (le_of_eq ?_) (hb (i 1))
    have h₀ : (i 0).val < 1 := (i 0).isLt
    have h₂ : (i 2).val < 1 := (i 2).isLt
    exact shapeCast_apply (k := (ix2 (i 1) 0 : (⟨2, ![2048, 1]⟩ : Shape).Idx)) _ _ _
      (by rw [Shape.rowMajor_val_three, Shape.rowMajor_val_two]; show (i 1).val * 1 + 0 = ((i 0).val * 2048 + (i 1).val) * 1 + (i 2).val; omega)

/-! ## The branches -/

/-- A branch is taken exactly where its comparison's bit is set. -/
theorem flag_eq_one (b : BitVec 1) : flag b = 1#1 ↔ b = 1#1 := by
  revert b; unfold flag; decide

variable {g : Vec Ideal S2048x32 .f32} {n : Fin 2048 → ℕ}

/-- The smallest degree is at most a node's. -/
theorem Degrees.min_le (hn : Degrees g n) (p : Fin 2048) : k0_pay3 (whole g) ≤ ((n p : ℝ) : EReal) := by
  rw [← hn.degree p 0]
  exact columnMin_le _ _ _

/-- A node's degree is at most the largest one. -/
theorem Degrees.le_max (hn : Degrees g n) (p : Fin 2048) : ((n p : ℝ) : EReal) ≤ k0_pay4 (whole g) := by
  rw [← hn.degree p 0]
  exact le_columnMax _ _ _

/-- The largest degree is at most 32. -/
theorem Degrees.max_le (hn : Degrees g n) : k0_pay4 (whole g) ≤ (((32 : ℕ) : ℝ) : EReal) := by
  refine columnMax_le _ _ (fun p => ?_) _
  rw [hn.degree]
  exact EReal.coe_le_coe_iff.mpr (by exact_mod_cast (hn p).1)

/-- The column that marks the nodes whose degree is at least `lo` and below `hi`. -/
def inRange (g : Vec Ideal S2048x32 .f32) (lo hi : BitVec 32) : FVec Ideal S2048x1 .f32 :=
  select (andi (cmpf .oge (k0_pay2 (whole g)) (broadcast S2048x1 (Scalar.ofBits .f32 lo)))
    (cmpf .olt (k0_pay2 (whole g)) (broadcast S2048x1 (Scalar.ofBits .f32 hi)))) k0_pay5 k0_pay6

/-- A node whose degree lies in the range has a positive mark. -/
theorem Degrees.inRange_pos (hn : Degrees g n) (lo hi : Fin 33) (p : Fin 2048) (h₁ : lo.val ≤ n p) (h₂ : n p < hi.val) :
    0 < inRange g (wordOf lo) (wordOf hi) (ix2 p 0) := by
  unfold inRange
  rw [select_apply]
  have hc : andi (cmpf .oge (k0_pay2 (whole g)) (broadcast S2048x1 (Scalar.ofBits .f32 (wordOf lo))))
      (cmpf .olt (k0_pay2 (whole g)) (broadcast S2048x1 (Scalar.ofBits .f32 (wordOf hi)))) (ix2 p 0) = 1#1 := by
    change BitVec.ofBool (decide (Ideal.ofBits .f32 (wordOf lo) ≤ k0_pay2 (whole g) (ix2 p 0)))
      &&& BitVec.ofBool (decide (k0_pay2 (whole g) (ix2 p 0) < Ideal.ofBits .f32 (wordOf hi))) = 1#1
    rw [hn.degree, ofBits_wordOf, ofBits_wordOf, decide_eq_true (EReal.coe_le_coe_iff.mpr (by exact_mod_cast h₁)),
      decide_eq_true (EReal.coe_lt_coe_iff.mpr (by exact_mod_cast h₂))]
    rfl
  rw [hc]
  show (0 : EReal) < Ideal.ofBits .f32 (wordOf 1)
  rw [ofBits_wordOf]
  exact_mod_cast Nat.one_pos

/-- A branch over marked nodes that is not taken has no marked node. -/
theorem range_none (x : FVec Ideal S2048x1 .f32) (m : EReal) (hm : ∀ p, x (ix2 p 0) ≤ m)
    (hb : flag (Scalar.cmpf .ogt (φ := .f32) m (Scalar.ofBits (F := Ideal) .f32 0x00000000#32)) ≠ 1#1) (p : Fin 2048) : ¬ 0 < x (ix2 p 0) := by
  intro h
  refine hb ((flag_eq_one _).mpr ?_)
  change BitVec.ofBool (decide (Ideal.ofBits .f32 (wordOf 0) < m)) = 1#1
  rw [ofBool_decide_eq_one, ofBits_wordOf]
  refine lt_of_lt_of_le ?_ (hm p)
  simpa using h

/-- No node is of degree below `d` where the smallest degree is not. -/
theorem Degrees.not_below (hn : Degrees g n) (d : Fin 33)
    (hb : flag (Scalar.cmpf .olt (φ := .f32) (k0_pay3 (whole g)) (Scalar.ofBits (F := Ideal) .f32 (wordOf d))) ≠ 1#1) (p : Fin 2048) : d.val ≤ n p := by
  by_contra h
  refine hb ((flag_eq_one _).mpr ?_)
  change BitVec.ofBool (decide (k0_pay3 (whole g) < Ideal.ofBits .f32 (wordOf d))) = 1#1
  rw [ofBool_decide_eq_one, ofBits_wordOf]
  exact lt_of_le_of_lt (hn.min_le p) (EReal.coe_lt_coe_iff.mpr (by exact_mod_cast Nat.lt_of_not_le h))

/-- Where the branch on degrees below 4 is not taken, every degree is 4 or more. -/
theorem Degrees.not_below4 (hn : Degrees g n) (hb : below4 g ≠ 1#1) (p : Fin 2048) : 4 ≤ n p := hn.not_below 4 hb p

/-- Where the branch on degrees below 8 is not taken, every degree is 8 or more. -/
theorem Degrees.not_below8 (hn : Degrees g n) (hb : below8 g ≠ 1#1) (p : Fin 2048) : 8 ≤ n p := hn.not_below 8 hb p

/-- Where the branch on degrees 4 to 7 is not taken, no node has such a degree. -/
theorem Degrees.not_in47 (hn : Degrees g n) (hb : in47 g ≠ 1#1) (p : Fin 2048) : ¬ (4 ≤ n p ∧ n p < 8) := fun h =>
  range_none (inRange g (wordOf 4) (wordOf 8)) _ (fun q => le_columnMax _ q _) hb p (hn.inRange_pos 4 8 p h.1 h.2)

/-- Where the branch on degrees 24 to 27 is not taken, no node has such a degree. -/
theorem Degrees.not_in2427 (hn : Degrees g n) (hb : in2427 g ≠ 1#1) (p : Fin 2048) : ¬ (24 ≤ n p ∧ n p < 28) := fun h =>
  range_none (inRange g (wordOf 24) (wordOf 28)) _ (fun q => le_columnMax _ q _) hb p (hn.inRange_pos 24 28 p h.1 h.2)

/-- Where the branch on degrees 28 to 31 is not taken, no node has such a degree. -/
theorem Degrees.not_in2831 (hn : Degrees g n) (hb : in2831 g ≠ 1#1) (p : Fin 2048) : ¬ (28 ≤ n p ∧ n p < 32) := fun h =>
  range_none (inRange g (wordOf 28) (wordOf 32)) _ (fun q => le_columnMax _ q _) hb p (hn.inRange_pos 28 32 p h.1 h.2)

/-- Every node is of degree below `d` where the largest degree is. -/
theorem Degrees.not_above (hn : Degrees g n) (d : Fin 33)
    (hb : flag (Scalar.cmpf .oge (φ := .f32) (k0_pay4 (whole g)) (Scalar.ofBits (F := Ideal) .f32 (wordOf d))) ≠ 1#1) (p : Fin 2048) : n p < d.val := by
  by_contra h
  refine hb ((flag_eq_one _).mpr ?_)
  change BitVec.ofBool (decide (Ideal.ofBits .f32 (wordOf d) ≤ k0_pay4 (whole g))) = 1#1
  rw [ofBool_decide_eq_one, ofBits_wordOf]
  exact le_trans (EReal.coe_le_coe_iff.mpr (by exact_mod_cast Nat.le_of_not_lt h)) (hn.le_max p)

/-- No node is of the largest possible degree `d` where the largest degree is not `d`. -/
theorem Degrees.not_top (hn : Degrees g n) (d : Fin 33) (hd : d.val = 32)
    (hb : flag (Scalar.cmpf .oeq (φ := .f32) (k0_pay4 (whole g)) (Scalar.ofBits (F := Ideal) .f32 (wordOf d))) ≠ 1#1) (p : Fin 2048) : n p ≠ d.val := by
  intro h
  have h₁ := hn.max_le
  have h₂ := hn.le_max p
  rw [h] at h₂
  replace h₁ := h₁.trans (EReal.coe_le_coe_iff.mpr (Nat.cast_le.mpr (ge_of_eq hd)))
  generalize k0_pay4 (whole g) = m at h₁ h₂ hb
  refine hb ((flag_eq_one _).mpr ?_)
  change BitVec.ofBool (decide (m = Ideal.ofBits .f32 (wordOf d))) = 1#1
  rw [ofBool_decide_eq_one, ofBits_wordOf]
  exact le_antisymm h₁ h₂

/-- Where the branch on degrees from 24 on is not taken, every degree is below 24. -/
theorem Degrees.not_above23 (hn : Degrees g n) (hb : above23 g ≠ 1#1) (p : Fin 2048) : n p < 24 := hn.not_above 24 hb p

/-- Where the branch on degree 32 is not taken, no node has that degree. -/
theorem Degrees.not_is32 (hn : Degrees g n) (hb : is32 g ≠ 1#1) (p : Fin 2048) : n p ≠ 32 := hn.not_top 32 rfl hb p

/-! ## The products -/

/-- A sum over `a + b` places, the first `a` and the last `b`. -/
theorem sum_two {N : ℕ} (a b : ℕ) (hN : N = a + b) (f : Fin N → EReal) :
    ∑ x, f x = (∑ i : Fin a, f ⟨i.val, by omega⟩) + ∑ j : Fin b, f ⟨a + j.val, by omega⟩ := by
  subst hN
  exact Fin.sum_univ_add f

/-- Node `p`'s neighbour sum times degree `d`'s node rows. -/
def nodeT (s : FVec Ideal S2048x128 .bf16) (H : Vec Ideal S33x144x128 .f32) (p : Fin 2048) (o : Fin 128) (d : Fin 33) : EReal :=
  ∑ i : Fin 128, s (ix2 p i) * H (ix3 d ⟨i.val, by omega⟩ o)

/-- Node `p`'s edge sum times degree `d`'s edge rows. -/
def edgeT (u : FVec Ideal S2048x16 .bf16) (H : Vec Ideal S33x144x128 .f32) (p : Fin 2048) (o : Fin 128) (d : Fin 33) : EReal :=
  ∑ j : Fin 16, u (ix2 p j) * H (ix3 d ⟨128 + j.val, by omega⟩ o)

variable {s : FVec Ideal S2048x128 .bf16} {u : FVec Ideal S2048x16 .bf16} {H : Vec Ideal S33x144x128 .f32}

/-- A masked sum of products is the sum of products where the mask holds. -/
theorem sum_if_mul {m : ℕ} (c : Prop) [Decidable c] (x y : Fin m → EReal) :
    ∑ i, (if c then x i else 0) * y i = if c then ∑ i, x i * y i else 0 := by
  by_cases h : c
  · simp [h]
  · simp [h]

/-- One degree's product with the node rows of its weights: the node term where the degree is the node's, zero elsewhere. -/
theorem Degrees.node_term (hn : Degrees g n) (p : Fin 2048) (o : Fin 128) (d : Fin 33) :
    ∑ i : Fin 128, Hand.nodePiece g s (wordOf d) (ix2 p i) * nodeRows H d (ix2 i o) = if n p = d.val then nodeT s H p o d else 0 := by
  rw [nodeT, ← sum_if_mul]
  exact Finset.sum_congr rfl fun i _ => by rw [hn.nodePiece, nodeRows_ix]

/-- Four degrees' node terms, each at its own nodes. -/
theorem Degrees.addFour (hn : Degrees g n) (A : FVec Ideal S2048x128 .f32) (d : Fin 4 → Fin 33) (p : Fin 2048) (o : Fin 128) :
    addFour A (fourLhs g s (wordOf (d 0)) (wordOf (d 1)) (wordOf (d 2)) (wordOf (d 3))) (fourRhs H (d 0) (d 1) (d 2) (d 3)) (ix2 p o)
      = A (ix2 p o) + ∑ k : Fin 4, if n p = (d k).val then nodeT s H p o (d k) else 0 := by
  unfold Hand.addFour
  rw [shapeCast_self, addf_apply, matmul_ix (d := dot_S2048x512_S512x128_S2048x128_1_0_0_1_n_n) rfl, sum_split 4 128 rfl]
  refine congrArg (A (ix2 p o) + ·) (Finset.sum_congr rfl fun k _ => ?_)
  rw [← hn.node_term]
  refine Finset.sum_congr rfl fun i _ => congrArg₂ (· * ·) ?_ ?_
  · refine concatenate_ofFn_apply (s₁ := S2048x128) (t := S2048x512) 1 (fun k : Fin 4 => Hand.nodePiece g s (wordOf (d k))) _ rfl 128 rfl _ k
      (by show (128 * k.val + i.val) / 128 = k.val; omega) (ix2 p i) (by show i.val = (128 * k.val + i.val) % 128; omega) fun b hb => ?_
    match b with
    | ⟨0, _⟩ => rfl
    | ⟨1, _⟩ => exact absurd rfl hb
  · unfold fourRhs
    rw [truncf_apply]
    refine concatenate_ofFn_apply (s₁ := S128x128) (t := S512x128) 0 (fun k : Fin 4 => nodeRows H (d k)) _ rfl 128 rfl _ k
      (by show (128 * k.val + i.val) / 128 = k.val; omega) (ix2 i o) (by show i.val = (128 * k.val + i.val) % 128; omega) fun b hb => ?_
    match b with
    | ⟨0, _⟩ => exact absurd rfl hb
    | ⟨1, _⟩ => rfl

/-- Eight degrees' edge terms, each at its own nodes. -/
theorem Degrees.addEight (hn : Degrees g n) (A : FVec Ideal S2048x128 .f32) (c : Fin 33) (d : Fin 8 → Fin 33) (hd : ∀ k, (d k).val = c.val + k.val)
    (p : Fin 2048) (o : Fin 128) :
    addEight A (Hand.edgePiece g u (wordOf c)) (eightRhs H (d 0) (d 1) (d 2) (d 3) (d 4) (d 5) (d 6) (d 7)) (ix2 p o)
      = A (ix2 p o) + ∑ k : Fin 8, if n p = (d k).val then edgeT u H p o (d k) else 0 := by
  unfold Hand.addEight
  rw [shapeCast_self, addf_apply, matmul_ix (d := dot_S2048x128_S128x128_S2048x128_1_0_0_1_n_n) rfl, sum_split 8 16 rfl]
  refine congrArg (A (ix2 p o) + ·) (Finset.sum_congr rfl fun k _ => ?_)
  rw [edgeT, ← sum_if_mul]
  refine Finset.sum_congr rfl fun j _ => congrArg₂ (· * ·) ?_ ?_
  · rw [hn.edgePiece]
    refine if_congr ?_ (congrArg u (congrArg (ix2 p) (Fin.ext (by dsimp only; omega)))) rfl
    rw [hd]
    dsimp only
    omega
  · unfold eightRhs
    rw [truncf_apply, ← edgeRows_ix H (d k) j o]
    refine concatenate_ofFn_apply (s₁ := S16x128) (t := S128x128) 0 (fun k : Fin 8 => edgeRows H (d k)) _ rfl 16 rfl _ k
      (by show (16 * k.val + j.val) / 16 = k.val; omega) (ix2 j o) (by show j.val = (16 * k.val + j.val) % 16; omega) fun b hb => ?_
    match b with
    | ⟨0, _⟩ => exact absurd rfl hb
    | ⟨1, _⟩ => rfl

/-- Degree 32's terms, at the nodes of degree 32. -/
theorem Degrees.addLast (hn : Degrees g n) (A : FVec Ideal S2048x128 .f32) (p : Fin 2048) (o : Fin 128) :
    addLast A g s u H (ix2 p o) = A (ix2 p o) + if n p = 32 then nodeT s H p o 32 + edgeT u H p o 32 else 0 := by
  have hr : ∀ i : Fin 144, (truncf .bf16 (shapeCast S144x128 (View.ld H (Rect.unit ![(32 : Fin 33).val, 0, 0] S1x144x128.size (allRows_ok 32)))
      shapeCasts_S1x144x128_S144x128) bitsLt_bf16_f32 : FVec Ideal S144x128 .bf16) (ix2 i o) = H (ix3 32 i o) := by
    intro i
    rw [truncf_apply, shapeCast_apply (k := ix3 0 i o) _ _ _ (by rw [Shape.rowMajor_val_three, Shape.rowMajor_val_two]; show (0 * 144 + i.val) * 128 + o.val = i.val * 128 + o.val; omega),
      View.ld_unit]
    refine extractStridedSlice_apply _ _ _ _ _ fun a => ?_
    match a with
    | ⟨0, _⟩ => rfl
    | ⟨1, _⟩ => exact (Nat.zero_add _).symm
    | ⟨2, _⟩ => exact (Nat.zero_add _).symm
  unfold Hand.addLast
  rw [shapeCast_self, addf_apply, matmul_ix (d := dot_S2048x144_S144x128_S2048x128_1_0_0_1_n_n) rfl, sum_two 128 16 rfl]
  refine congrArg (A (ix2 p o) + ·) ?_
  have h₁ : ∀ x y : EReal, (if n p = 32 then x + y else 0) = (if n p = 32 then x else 0) + if n p = 32 then y else 0 := by
    intro x y; split <;> simp
  rw [h₁, nodeT, edgeT, ← sum_if_mul, ← sum_if_mul]
  refine congrArg₂ (· + ·) (Finset.sum_congr rfl fun i _ => congrArg₂ (· * ·) ?_ (hr _)) (Finset.sum_congr rfl fun j _ => congrArg₂ (· * ·) ?_ (hr _))
  · refine (concatenate_pair_apply_left (t := S2048x144) (s₁ := S2048x128) (s₂ := S2048x16) 1 _ _ _ _ rfl (ix2 p i) fun b => ?_).trans (hn.nodePiece s 32 p i)
    match b with
    | ⟨0, _⟩ => rfl
    | ⟨1, _⟩ => rfl
  · refine (concatenate_pair_apply_right (t := S2048x144) (s₁ := S2048x128) (s₂ := S2048x16) 1 _ _ _ _ rfl rfl (ix2 p j) (fun b hb => ?_) ?_).trans (hn.edgeLast u p j)
    · match b with
      | ⟨0, _⟩ => rfl
      | ⟨1, _⟩ => exact absurd rfl hb
    · exact Nat.add_comm _ _

/-! ## The degrees 8 to 23 -/

/-- The eighteen pieces of the middle product's left side. -/
def midPiece (g : Vec Ideal S2048x32 .f32) (s : FVec Ideal S2048x128 .bf16) (u : FVec Ideal S2048x16 .bf16) : Fin 18 → FVec Ideal S2048x128 .bf16 :=
  ![Hand.nodePiece g s 0x41000000#32, Hand.nodePiece g s 0x41100000#32, Hand.nodePiece g s 0x41200000#32, Hand.nodePiece g s 0x41300000#32, Hand.nodePiece g s 0x41400000#32, Hand.nodePiece g s 0x41500000#32, Hand.nodePiece g s 0x41600000#32, Hand.nodePiece g s 0x41700000#32, Hand.nodePiece g s 0x41800000#32,
    Hand.nodePiece g s 0x41880000#32, Hand.nodePiece g s 0x41900000#32, Hand.nodePiece g s 0x41980000#32, Hand.nodePiece g s 0x41A00000#32, Hand.nodePiece g s 0x41A80000#32, Hand.nodePiece g s 0x41B00000#32, Hand.nodePiece g s 0x41B80000#32, Hand.edgePiece g u 0x41000000#32, Hand.edgePiece g u 0x41800000#32]

/-- The first sixteen pieces are the degrees' node sums. -/
theorem midPiece_node (s : FVec Ideal S2048x128 .bf16) (u : FVec Ideal S2048x16 .bf16) (k : Fin 16) :
    midPiece g s u ⟨k.val, by omega⟩ = Hand.nodePiece g s (wordOf ⟨8 + k.val, by omega⟩) := by
  fin_cases k <;> rfl

/-- The last two pieces are eight degrees' edge sums each. -/
theorem midPiece_edge (s : FVec Ideal S2048x128 .bf16) (u : FVec Ideal S2048x16 .bf16) (k : Fin 2) :
    midPiece g s u ⟨16 + k.val, by omega⟩ = Hand.edgePiece g u (wordOf ⟨8 + 8 * k.val, by omega⟩) := by
  fin_cases k <;> rfl

/-- The piece of the middle product's left side that holds degree `8 + k`'s node sums. -/
theorem midLhs_node (s : FVec Ideal S2048x128 .bf16) (u : FVec Ideal S2048x16 .bf16) (p : Fin 2048) (k : Fin 16) (i : Fin 128) :
    midLhs g s u (ix2 p ⟨128 * k.val + i.val, by omega⟩) = Hand.nodePiece g s (wordOf ⟨8 + k.val, by omega⟩) (ix2 p i) := by
  unfold midLhs
  refine concatenate_ofFn_apply (s₁ := S2048x128) (t := S2048x2304) 1 (midPiece g s u) _ rfl 128 rfl _ ⟨k.val, by omega⟩ (by show (128 * k.val + i.val) / 128 = k.val; omega) (ix2 p i)
    (by show i.val = (128 * k.val + i.val) % 128; omega) (fun b hb => ?_) |>.trans ?_
  · match b with
    | ⟨0, _⟩ => rfl
    | ⟨1, _⟩ => exact absurd rfl hb
  · rw [midPiece_node]

/-- The piece of the middle product's left side that holds eight degrees' edge sums. -/
theorem midLhs_edge (s : FVec Ideal S2048x128 .bf16) (u : FVec Ideal S2048x16 .bf16) (p : Fin 2048) (k : Fin 2) (l : Fin 128) :
    midLhs g s u (ix2 p ⟨2048 + (128 * k.val + l.val), by omega⟩) = Hand.edgePiece g u (wordOf ⟨8 + 8 * k.val, by omega⟩) (ix2 p l) := by
  unfold midLhs
  refine concatenate_ofFn_apply (s₁ := S2048x128) (t := S2048x2304) 1 (midPiece g s u) _ rfl 128 rfl _ ⟨16 + k.val, by omega⟩ (by show (2048 + (128 * k.val + l.val)) / 128 = 16 + k.val; omega) (ix2 p l)
    (by show l.val = (2048 + (128 * k.val + l.val)) % 128; omega) (fun b hb => ?_) |>.trans ?_
  · match b with
    | ⟨0, _⟩ => rfl
    | ⟨1, _⟩ => exact absurd rfl hb
  · rw [midPiece_edge]

/-- Degree `8 + k`'s node rows in the middle product's right side. -/
theorem midRhs_node (H : Vec Ideal S33x144x128 .f32) (k : Fin 16) (i o : Fin 128) :
    midRhs H (ix2 ⟨128 * k.val + i.val, by omega⟩ o) = nodeRows H ⟨8 + k.val, by omega⟩ (ix2 i o) := by
  unfold midRhs
  refine (concatenate_pair_apply_left (t := S2304x128) (s₁ := S2048x128) (s₂ := S256x128) 0 _ _ _ _ rfl (ix2 ⟨128 * k.val + i.val, by omega⟩ o) fun b => ?_).trans ?_
  · match b with
    | ⟨0, _⟩ => rfl
    | ⟨1, _⟩ => rfl
  · rw [truncf_apply]
    refine concatenate_ofFn_apply (s₁ := S128x128) (t := S2048x128) 0 (fun k : Fin 16 => nodeRows H ⟨8 + k.val, by omega⟩) _ rfl 128 rfl _ k
      (by show (128 * k.val + i.val) / 128 = k.val; omega) (ix2 i o) (by show i.val = (128 * k.val + i.val) % 128; omega) fun b hb => ?_
    match b with
    | ⟨0, _⟩ => exact absurd rfl hb
    | ⟨1, _⟩ => rfl

/-- Degree `8 + k`'s edge rows in the middle product's right side. -/
theorem midRhs_edge (H : Vec Ideal S33x144x128 .f32) (k : Fin 16) (j : Fin 16) (o : Fin 128) :
    midRhs H (ix2 ⟨2048 + (16 * k.val + j.val), by omega⟩ o) = edgeRows H ⟨8 + k.val, by omega⟩ (ix2 j o) := by
  unfold midRhs
  refine (concatenate_pair_apply_right (t := S2304x128) (s₁ := S2048x128) (s₂ := S256x128) 0 _ _ _ _ rfl rfl (ix2 ⟨16 * k.val + j.val, by omega⟩ o) (fun b hb => ?_) ?_).trans ?_
  · match b with
    | ⟨0, _⟩ => exact absurd rfl hb
    | ⟨1, _⟩ => rfl
  · exact Nat.add_comm _ _
  · rw [truncf_apply]
    refine concatenate_ofFn_apply (s₁ := S16x128) (t := S256x128) 0 (fun k : Fin 16 => edgeRows H ⟨8 + k.val, by omega⟩) _ rfl 16 rfl _ k
      (by show (16 * k.val + j.val) / 16 = k.val; omega) (ix2 j o) (by show j.val = (16 * k.val + j.val) % 16; omega) fun b hb => ?_
    match b with
    | ⟨0, _⟩ => exact absurd rfl hb
    | ⟨1, _⟩ => rfl

/-- The degrees 8 to 23, each at its own nodes. -/
theorem Degrees.accMid (hn : Degrees g n) (p : Fin 2048) (o : Fin 128) :
    accMid g s u H (ix2 p o)
      = (∑ k : Fin 16, if n p = 8 + k.val then nodeT s H p o ⟨8 + k.val, by omega⟩ else 0)
        + ∑ k : Fin 16, if n p = 8 + k.val then edgeT u H p o ⟨8 + k.val, by omega⟩ else 0 := by
  unfold Hand.accMid
  rw [shapeCast_self, matmul_ix (d := dot_S2048x2304_S2304x128_S2048x128_1_0_0_1_n_n) rfl, sum_two 2048 256 rfl, sum_split 16 128 rfl, sum_split 16 16 rfl]
  refine congrArg₂ (· + ·) (Finset.sum_congr rfl fun k _ => ?_) (Finset.sum_congr rfl fun k _ => ?_)
  · rw [← hn.node_term (d := ⟨8 + k.val, by omega⟩)]
    exact Finset.sum_congr rfl fun i _ => congrArg₂ (· * ·) (midLhs_node _ _ _ _ _) (midRhs_node _ _ _ _)
  · rw [edgeT, ← sum_if_mul]
    refine Finset.sum_congr rfl fun j _ => congrArg₂ (· * ·) ?_ ((midRhs_edge _ _ _ _).trans (edgeRows_ix _ _ _ _))
    have hl : (⟨2048 + (16 * k.val + j.val), by omega⟩ : Fin 2304)
        = ⟨2048 + (128 * (⟨k.val / 8, by omega⟩ : Fin 2).val + (⟨16 * (k.val % 8) + j.val, by omega⟩ : Fin 128).val), by dsimp only; omega⟩ :=
      Fin.ext (by dsimp only; omega)
    refine (congrArg (fun x => midLhs g s u (ix2 p x)) hl).trans ?_
    rw [midLhs_edge, hn.edgePiece]
    refine if_congr ?_ (congrArg u (congrArg (ix2 p) (Fin.ext (by dsimp only; omega)))) rfl
    dsimp only
    omega

/-! ## All degrees -/

/-- One branch at an index: what it adds, which is nothing where the branch is not taken. -/
theorem when_ix (b : BitVec 1) (x y : FVec Ideal S2048x128 .f32) (j : S2048x128.Idx) (t : EReal) (hx : x j = y j + t) (hb : b ≠ 1#1 → t = 0) :
    when b x y j = y j + t := by
  unfold when
  by_cases h : b = 1#1
  · rw [if_pos h, hx]
  · rw [if_neg h, hb h, add_zero]

/-- The terms of a run of degrees, of which one node has at most one. -/
theorem sum_run {m c N : ℕ} (hN : N < 33) (d : Fin m → Fin 33) (hd : ∀ k, (d k).val = c + k.val) (T : Fin 33 → EReal) :
    (∑ k : Fin m, if N = (d k).val then T (d k) else 0) = if c ≤ N ∧ N < c + m then T ⟨N, hN⟩ else 0 := by
  by_cases h : c ≤ N ∧ N < c + m
  · rw [if_pos h, Finset.sum_eq_single (⟨N - c, by omega⟩ : Fin m)]
    · have e : d ⟨N - c, by omega⟩ = ⟨N, hN⟩ := Fin.ext (by rw [hd]; dsimp only; omega)
      rw [e, if_pos rfl]
    · intro k _ hk
      exact if_neg fun h' => hk (Fin.ext (by have := hd k; dsimp only; omega))
    · exact fun h' => absurd (Finset.mem_univ _) h'
  · rw [if_neg h]
    exact Finset.sum_eq_zero fun k _ => if_neg fun h' => h (by have := hd k; have := k.isLt; omega)

/-- One layer's accumulator: the node's own degree's terms. -/
theorem Degrees.acc7 (hn : Degrees g n) (p : Fin 2048) (o : Fin 128) :
    acc7 g s u H (ix2 p o) = nodeT s H p o ⟨n p, Nat.lt_succ_of_le (hn p).1⟩ + edgeT u H p o ⟨n p, Nat.lt_succ_of_le (hn p).1⟩ := by
  have hN : n p < 33 := Nat.lt_succ_of_le (hn p).1
  have none : ∀ (c : Prop) [Decidable c] (T : EReal), ¬ c → (if c then T else 0) = 0 := fun c _ T h => if_neg h
  have e₁ := when_ix (below4 g) _ (Hand.accMid g s u H) (ix2 p o) _ (hn.addFour (s := s) (H := H) (Hand.accMid g s u H) ![0, 1, 2, 3] p o)
    (fun hb => by rw [sum_run (c := 0) hN _ (by decide)]; exact none _ _ (by have := hn.not_below4 hb p; omega))
  have e₂ := when_ix (in47 g) _ (acc1 g s u H) (ix2 p o) _ (hn.addFour (s := s) (H := H) (acc1 g s u H) ![4, 5, 6, 7] p o)
    (fun hb => by rw [sum_run (c := 4) hN _ (by decide)]; exact none _ _ (by have := hn.not_in47 hb p; omega))
  have e₃ := when_ix (below8 g) _ (acc2 g s u H) (ix2 p o) _ (hn.addEight (u := u) (H := H) (acc2 g s u H) 0 ![0, 1, 2, 3, 4, 5, 6, 7] (by decide) p o)
    (fun hb => by rw [sum_run (c := 0) hN _ (by decide)]; exact none _ _ (by have := hn.not_below8 hb p; omega))
  have e₄ := when_ix (in2427 g) _ (acc3 g s u H) (ix2 p o) _ (hn.addFour (s := s) (H := H) (acc3 g s u H) ![24, 25, 26, 27] p o)
    (fun hb => by rw [sum_run (c := 24) hN _ (by decide)]; exact none _ _ (by have := hn.not_in2427 hb p; omega))
  have e₅ := when_ix (in2831 g) _ (acc4 g s u H) (ix2 p o) _ (hn.addFour (s := s) (H := H) (acc4 g s u H) ![28, 29, 30, 31] p o)
    (fun hb => by rw [sum_run (c := 28) hN _ (by decide)]; exact none _ _ (by have := hn.not_in2831 hb p; omega))
  have e₆ := when_ix (above23 g) _ (acc5 g s u H) (ix2 p o) _ (hn.addEight (u := u) (H := H) (acc5 g s u H) 24 ![24, 25, 26, 27, 28, 29, 30, 31] (by decide) p o)
    (fun hb => by rw [sum_run (c := 24) hN _ (by decide)]; exact none _ _ (by have := hn.not_above23 hb p; omega))
  have e₇ := when_ix (is32 g) _ (acc6 g s u H) (ix2 p o) _ (hn.addLast (s := s) (u := u) (H := H) (acc6 g s u H) p o)
    (fun hb => none _ _ (hn.not_is32 hb p))
  refine e₇.trans ?_
  rw [show acc6 g s u H (ix2 p o) = _ from e₆, show acc5 g s u H (ix2 p o) = _ from e₅, show acc4 g s u H (ix2 p o) = _ from e₄,
    show acc3 g s u H (ix2 p o) = _ from e₃, show acc2 g s u H (ix2 p o) = _ from e₂, show acc1 g s u H (ix2 p o) = _ from e₁, hn.accMid,
    sum_run (c := 0) hN ![0, 1, 2, 3] (by decide), sum_run (c := 4) hN ![4, 5, 6, 7] (by decide), sum_run (c := 24) hN ![24, 25, 26, 27] (by decide),
    sum_run (c := 28) hN ![28, 29, 30, 31] (by decide), sum_run (c := 0) hN ![0, 1, 2, 3, 4, 5, 6, 7] (by decide),
    sum_run (c := 24) hN ![24, 25, 26, 27, 28, 29, 30, 31] (by decide),
    sum_run (c := 8) hN (fun k : Fin 16 => (⟨8 + k.val, by omega⟩ : Fin 33)) (fun _ => rfl) (nodeT s H p o),
    sum_run (c := 8) hN (fun k : Fin 16 => (⟨8 + k.val, by omega⟩ : Fin 33)) (fun _ => rfl) (edgeT u H p o)]
  have h32 : (n p = 32) = (32 ≤ n p) := propext ⟨fun h => h.ge, fun h => by omega⟩
  by_cases h : n p = 32
  · have e : (⟨n p, hN⟩ : Fin 33) = 32 := Fin.ext h
    rw [e]
    simp [h]
  · generalize nodeT s H p o ⟨n p, hN⟩ = x
    generalize edgeT u H p o ⟨n p, hN⟩ = y
    rw [if_neg h, add_zero]
    clear e₁ e₂ e₃ e₄ e₅ e₆ e₇ h32
    generalize n p = N at h hN
    clear none
    split_ifs <;> first | (exfalso; omega) | simp

end Cert.Values

end
-- ==== Proof.Net.lean ====
/-
  The last network on one graph's readout, as both programs compute it over the extended reals, and the kernel's two last stages
  read as it.
-/
module

public import proofs.«01_k».proof.Proof.Reading
public import proofs.«01_k».proof.Proof.KernelIdealStages

@[expose] public section

noncomputable section

open scoped BigOperators

namespace Cert.Values

open Idealize.ShloMosaic Idealize.ShloMosaic.ValueIdx
open Cert.KernelIdeal Cert.KernelIdeal.Gen Cert.KernelIdeal.Hand

/-- The largest entry of a row, from minus infinity on. -/
def rowTop {k : ℕ} (x : Fin k → EReal) : EReal :=
  max (Ideal.ofBits .f32 0xFF800000#32) ((Finset.univ : Finset (Fin k)).fold max (Ideal.ofBits .f32 0xFF800000#32) x)

/-- The softmax of a row. -/
def softRow {k : ℕ} (x : Fin k → EReal) (o : Fin k) : EReal :=
  Ideal.div (Ideal.exp (x o - rowTop x)) (∑ q, Ideal.exp (x q - rowTop x))

/-- A dense layer on a row. -/
def dense {k m : ℕ} (x : Fin k → EReal) (W : Fin k → Fin m → EReal) (b : Fin m → EReal) (o : Fin m) : EReal := (∑ i, x i * W i o) + b o

/-- The positive part of a row. -/
def relu {k : ℕ} (x : Fin k → EReal) (o : Fin k) : EReal := max (x o) (Ideal.ofBits .f32 0x00000000#32)

/-- The first dense layer on the softmax of a readout. -/
def netHead (a : Fin 128 → EReal) (N₀ : Fin 128 → Fin 128 → EReal) (b₀ : Fin 128 → EReal) : Fin 128 → EReal := dense (softRow a) N₀ b₀

/-- The rest of the network. -/
def netTail (x : Fin 128 → EReal) (N₁ : Fin 128 → Fin 256 → EReal) (b₁ : Fin 256 → EReal) (N₂ : Fin 256 → Fin 128 → EReal) (b₂ : Fin 128 → EReal)
    (N₃ : Fin 128 → Fin 12 → EReal) (b₃ : Fin 12 → EReal) : Fin 12 → EReal :=
  softRow fun o => Ideal.logistic (dense (relu (dense (relu (dense (relu x) N₁ b₁)) N₂ b₂)) N₃ b₃ o)

/-- The rows of a matrix as functions of the column. -/
abbrev mat {a b : ℕ} (x : FVec Ideal ⟨2, ![a, b]⟩ .f32) : Fin a → Fin b → EReal := fun i o => x (ix2 i o)

/-- The kernel's softmax along the rows. -/
theorem softRow_ix {k : ℕ} (x : FVec Ideal ⟨2, ![64, k]⟩ .f32) (h₁ : (⟨2, ![64, k]⟩ : Shape).Reduces [1] ⟨1, ![64]⟩)
    (h₂ : (⟨1, ![64]⟩ : Shape).ShapeCasts ⟨2, ![64, 1]⟩) (h₃ : (⟨2, ![64, 1]⟩ : Shape).Broadcasts ⟨2, ![64, k]⟩) (hφ : FKind.Formats .f32)
    (hm : (0xFF800000#32 : BitVec 32) = FKind.maximumf.neutral .f32 hφ) (hs : (0x00000000#32 : BitVec 32) = FKind.add.neutral .f32 hφ)
    (b : Fin 64) (o : Fin k) :
    divf
      (exp (subf x (broadcastTo ⟨2, ![64, k]⟩ (shapeCast ⟨2, ![64, 1]⟩ (maximumf (broadcast ⟨1, ![64]⟩ (Scalar.ofBits (F := Ideal) .f32 0xFF800000#32))
        (multiReduction .maximumf [1] ⟨1, ![64]⟩ x 0xFF800000#32 h₁ hφ hm)) h₂) h₃)))
      (broadcastTo ⟨2, ![64, k]⟩ (shapeCast ⟨2, ![64, 1]⟩ (multiReduction .add [1] ⟨1, ![64]⟩
        (exp (subf x (broadcastTo ⟨2, ![64, k]⟩ (shapeCast ⟨2, ![64, 1]⟩ (maximumf (broadcast ⟨1, ![64]⟩ (Scalar.ofBits (F := Ideal) .f32 0xFF800000#32))
          (multiReduction .maximumf [1] ⟨1, ![64]⟩ x 0xFF800000#32 h₁ hφ hm)) h₂) h₃))) 0x00000000#32 h₁ hφ hs) h₂) h₃) (ix2 b o)
      = softRow (fun q => x (ix2 b q)) o := by
  have ht : ∀ q : Fin k, (exp (subf x (broadcastTo ⟨2, ![64, k]⟩ (shapeCast ⟨2, ![64, 1]⟩ (maximumf (broadcast ⟨1, ![64]⟩ (Scalar.ofBits (F := Ideal) .f32 0xFF800000#32))
        (multiReduction .maximumf [1] ⟨1, ![64]⟩ x 0xFF800000#32 h₁ hφ hm)) h₂) h₃)) : FVec Ideal ⟨2, ![64, k]⟩ .f32) (ix2 b q)
      = Ideal.exp (x (ix2 b q) - rowTop fun q => x (ix2 b q)) := by
    intro q
    refine congrArg (fun t => Ideal.exp (x (ix2 b q) - t)) ?_
    rw [spreadColumn_ix _ _ (by decide), column_ix, maximumf_apply, rowMax_ix]
    rfl
  rw [divf_apply, ht, spreadColumn_ix _ _ (by decide), column_ix, rowSum_ix]
  exact congrArg (Ideal.div _) (Finset.sum_congr rfl fun q _ => ht q)

/-- The kernel's first dense layer, on the readouts' sum with the last readout. -/
theorem pay193_ix (a : FVec Ideal S64x128 .f32) (A : FVec Ideal S2048x128 .f32) (W N : FVec Ideal S128x128 .f32) (c : FVec Ideal S1x128 .f32)
    (b : Fin 64) (o : Fin 128) :
    k0_pay193 a A W N c (ix2 b o) = netHead (fun q => a (ix2 b q) + readout (logistic A) W (ix2 b q)) (mat N) (fun q => c (ix2 0 q)) o := by
  unfold k0_pay193
  dsimp only
  rw [addf_apply, shapeCast_self, spreadRow_ix _ _ (by decide), matmul_ix (d := dot_S64x128_S128x128_S64x128_1_0_0_1_n_n) rfl]
  unfold netHead dense
  exact congrArg (· + c (ix2 0 o)) (Finset.sum_congr rfl fun i _ => congrArg (· * N (ix2 i o))
    (softRow_ix (addf a (readout (logistic A) W)) _ _ _ _ _ _ b i))

/-- The kernel's dense layer along the rows. -/
theorem dense_ix {k m : ℕ} {d : DotDims ⟨2, ![64, k]⟩ ⟨2, ![k, m]⟩ ⟨2, ![64, m]⟩} (hd : d = DotDims.plain 64 k m) (hm : m ≠ 1)
    (x : FVec Ideal ⟨2, ![64, k]⟩ .f32) (N : FVec Ideal ⟨2, ![k, m]⟩ .f32) (c : FVec Ideal ⟨2, ![1, m]⟩ .f32)
    (h₁ : (⟨2, ![1, m]⟩ : Shape).ShapeCasts ⟨2, ![1, m]⟩) (h₂ : (⟨2, ![1, m]⟩ : Shape).Broadcasts ⟨2, ![64, m]⟩) (b : Fin 64) (o : Fin m) :
    addf (matmul d none x N (constant ⟨2, ![64, m]⟩ .f32 0x00000000#32)) (broadcastTo ⟨2, ![64, m]⟩ (shapeCast ⟨2, ![1, m]⟩ c h₁) h₂) (ix2 b o)
      = dense (fun q => x (ix2 b q)) (mat N) (fun q => c (ix2 0 q)) o := by
  rw [addf_apply, shapeCast_self, spreadRow_ix _ _ hm, matmul_ix hd]
  rfl

/-- The kernel's remaining dense layers, the logistic and the last softmax. -/
theorem pay194_ix (x : FVec Ideal S64x128 .f32) (N₁ : FVec Ideal S128x256 .f32) (c₁ : FVec Ideal S1x256 .f32) (N₂ : FVec Ideal S256x128 .f32)
    (c₂ : FVec Ideal S1x128 .f32) (N₃ : FVec Ideal S128x12 .f32) (c₃ : FVec Ideal S1x12 .f32) (b : Fin 64) (o : Fin 12) :
    k0_pay194 x N₁ c₁ N₂ c₂ N₃ c₃ (ix2 b o)
      = netTail (fun q => x (ix2 b q)) (mat N₁) (fun q => c₁ (ix2 0 q)) (mat N₂) (fun q => c₂ (ix2 0 q)) (mat N₃) (fun q => c₃ (ix2 0 q)) o := by
  unfold k0_pay194
  dsimp only
  refine (softRow_ix _ _ _ _ _ _ _ b o).trans (congrArg (fun f => softRow f o) (funext fun q => congrArg Ideal.logistic ?_))
  refine (dense_ix (d := dot_S64x128_S128x12_S64x12_1_0_0_1_n_n) rfl (by decide) _ N₃ c₃ _ _ b q).trans ?_
  refine congrArg (fun f => dense (relu f) (mat N₃) (fun q => c₃ (ix2 0 q)) q) (funext fun i => ?_)
  refine (dense_ix (d := dot_S64x256_S256x128_S64x128_1_0_0_1_n_n) rfl (by decide) _ N₂ c₂ _ _ b i).trans ?_
  refine congrArg (fun f => dense (relu f) (mat N₂) (fun q => c₂ (ix2 0 q)) i) (funext fun j => ?_)
  exact dense_ix (d := dot_S64x128_S128x256_S64x256_1_0_0_1_n_n) rfl (by decide) _ N₁ c₁ _ _ b j

/-- The nodes' rows regrouped by graph. -/
theorem unflat_ix {α : Type} (x : (⟨2, ![2048, 128]⟩ : Shape).Idx → α) (h : (⟨2, ![2048, 128]⟩ : Shape).ShapeCasts ⟨3, ![64, 32, 128]⟩)
    (b : Fin 64) (v : Fin 32) (k : Fin 128) : shapeCast ⟨3, ![64, 32, 128]⟩ x h (ix3 b v k) = x (ix2 ⟨32 * b.val + v.val, by omega⟩ k) := by
  refine shapeCast_apply _ _ _ _ ?_
  rw [Shape.rowMajor_val_three, Shape.rowMajor_val_two]
  show (32 * b.val + v.val) * 128 + k.val = (b.val * 32 + v.val) * 128 + k.val
  omega

/-- The kernel's readout: per graph, the sum over its nodes of the counted values, times the readout weights. -/
theorem readout_ix (h : FVec Ideal S2048x128 .f32) (W : FVec Ideal S128x128 .f32) (b : Fin 64) (o : Fin 128) :
    readout h W (ix2 b o)
      = ∑ k : Fin 128, (∑ v : Fin 32, h (ix2 ⟨32 * b.val + v.val, by omega⟩ k) * ind (∑ q : Fin 128, h (ix2 ⟨32 * b.val + v.val, by omega⟩ q) ≠ 0))
          * W (ix2 k o) := by
  unfold readout
  rw [matmul_ix (d := dot_S64x128_S128x128_S64x128_1_0_0_1_n_n) rfl]
  refine Finset.sum_congr rfl fun k _ => congrArg (· * W (ix2 k o)) ?_
  refine (Ideal.multiReduction_add_single _ _ reduces_S64x32x128_S64x128 _ _ _).trans (Finset.sum_congr rfl fun (v : Fin 32) _ => ?_)
  have hl : reduces_S64x32x128_S64x128.lift (ix2 b k) v = ix3 b v k := by
    funext a; match a with
    | ⟨0, _⟩ => rfl
    | ⟨1, _⟩ => rfl
    | ⟨2, _⟩ => rfl
  refine (congrArg _ hl).trans ((unflat_ix _ _ b v k).trans ?_)
  rw [mulf_apply, spreadColumn_ix _ _ (by decide), sitofp_apply, extui_apply, bit_ind]
  refine congrArg (_ * ·) (ind_congr ?_)
  rw [cmpf_apply, column_ix, broadcast_apply]
  change BitVec.ofBool (decide (_ ≠ Ideal.ofBits .f32 0x00000000#32)) = 1#1 ↔ _
  rw [ofBool_decide_eq_one, Ideal.ofBits_zero_f32]
  exact not_congr (iff_of_eq (congrArg (· = (0 : EReal)) (rowSum_ix h _ _ _ _)))

end Cert.Values

end
-- ==== Proof.RefLayer.lean ====
/-
  The reference's layer and readout read at an index over the extended reals.
-/
module

public import proofs.«01_k».proof.Proof.Reading
public import proofs.«01_k».proof.Proof.Gen.ReferenceIdeal.Read

@[expose] public section

noncomputable section

open scoped BigOperators

namespace Cert.Values

open Idealize.ShloMosaic Idealize.ShloMosaic.ValueIdx
open Cert.ReferenceIdeal Cert.ReferenceIdeal.Gen Cert.ReferenceIdeal.Read

/-- The adjacency rows sum to the natural numbers `n`, none above 32. -/
def RefDegrees (g : FVec Ideal S64x32x32 .f32) (n : Fin 64 → Fin 32 → ℕ) : Prop :=
  ∀ b v, n b v ≤ 32 ∧ ∑ w : Fin 32, g (ix3 b v w) = ((n b v : ℝ) : EReal)

variable {g : FVec Ideal S64x32x32 .f32} {n : Fin 64 → Fin 32 → ℕ}

/-- A natural number up to 32 converted to a word and clipped to 0..32 is its word. -/
theorem clip_word (d : Fin 33) : IntOp.minsi 32#32 (IntOp.maxsi 0#32 (BitVec.ofNat 32 d.val)) = BitVec.ofNat 32 d.val := by
  revert d; decide

/-- A natural number up to 32 converted to a word. -/
theorem fptosi_word (d : ℕ) (hd : d ≤ 32) : Ideal.fptosi 32 ((d : ℝ) : EReal) = BitVec.ofNat 32 d := by
  have h : Ideal.toIntClamped (-(2 ^ (32 - 1) : Nat)) ((2 ^ (32 - 1) : Nat) - 1) ((d : ℝ) : EReal) = (d : ℤ) := by
    show max _ (min _ (if (0 : ℝ) ≤ (d : ℝ) then ⌊(d : ℝ)⌋ else ⌈(d : ℝ)⌉)) = (d : ℤ)
    rw [if_pos (Nat.cast_nonneg d), Int.floor_natCast]
    norm_num
    omega
  unfold Ideal.fptosi
  rw [h, BitVec.ofInt_natCast]

/-- The degree the reference looks up by. -/
theorem RefDegrees.degree (hn : RefDegrees g n) (b : Fin 64) (v : Fin 32) : val_main_v2 (F := Ideal) g (ix2 b v) = BitVec.ofNat 32 (n b v) := by
  rw [val_main_v2_apply, val_main_call0_v2_apply, val_main_v1_apply, val_main_v0_apply]
  have e : (val_main_cst (F := Ideal)) (Shape.Idx.first h_S_) + ∑ k : Fin 32, g (idx_main_v0 (ix2 b v) k) = ((n b v : ℝ) : EReal) := by
    rw [val_main_cst_apply]
    refine Eq.trans (congrArg₂ (· + ·) Ideal.ofBits_zero_f32 (Finset.sum_congr rfl fun w _ => congrArg g ?_)) ((zero_add _).trans (hn b v).2)
    funext a; match a with
    | ⟨0, _⟩ => rfl
    | ⟨1, _⟩ => rfl
    | ⟨2, _⟩ => rfl
  rw [e]
  refine (congrArg (fun t => IntOp.minsi _ (IntOp.maxsi _ t)) (fptosi_word _ (hn b v).1)).trans ?_
  exact clip_word ⟨n b v, Nat.lt_succ_of_le (hn b v).1⟩

/-- The start index of the lookup, after the wrap of negative ones. -/
theorem RefDegrees.start (hn : RefDegrees g n) (b : Fin 64) (v : Fin 32) (c : Fin 1) :
    val_main_call1_v5 (F := Ideal) g (ix3 b v c) = BitVec.ofNat 32 (n b v) := by
  rw [val_main_call1_v5_apply, val_main_call1_v4_apply]
  have hi : idx_main_call1_v5 (ix3 b v c) = ix2 b v := by
    funext a; match a with
    | ⟨0, _⟩ => rfl
    | ⟨1, _⟩ => rfl
  rw [hi, val_main_call1_v1_apply, val_main_call1_v3_apply, hn.degree]
  have key : ∀ d : Fin 33, Scalar.select (IntOp.cmpi .slt (BitVec.ofNat 32 d.val) 0#32) (IntOp.addi (BitVec.ofNat 32 d.val) 33#32) (BitVec.ofNat 32 d.val)
      = BitVec.ofNat 32 d.val := by decide
  exact key ⟨n b v, Nat.lt_succ_of_le (hn b v).1⟩

/-- The lookup stays inside the bank. -/
theorem RefDegrees.inside (hn : RefDegrees g n) (b : Fin 64) (v : Fin 32) : val_main_call1_v12 (F := Ideal) g (ix2 b v) = 1#1 := by
  unfold val_main_call1_v12
  have h : S64x32x1.Reduces [2] S64x32 := by decide
  have hone : IntOp.andi 1#1 1#1 = 1#1 := by decide
  have hu : (Finset.univ : Finset (Fin 1)) = {0} := rfl
  refine (Host.reduce_eq_fold_single IntOp.andi _ _ _ h _ _).trans ((congrArg (Finset.fold IntOp.andi _ _) hu).trans (Finset.fold_singleton.trans ?_))
  have hl : h.lift (ix2 b v) (0 : Fin 1) = ix3 b v 0 := by
    funext a; match a with
    | ⟨0, _⟩ => rfl
    | ⟨1, _⟩ => rfl
    | ⟨2, _⟩ => rfl
  refine (congrArg (IntOp.andi · _) ((congrArg (val_main_call1_v11 (F := Ideal) g) hl).trans ?_)).trans (hone : IntOp.andi 1#1 1#1 = 1#1)
  rw [val_main_call1_v11_apply, val_main_call1_v7_apply, val_main_call1_v10_apply, hn.start]
  have key : ∀ d : Fin 33, IntOp.andi (IntOp.cmpi .sge (BitVec.ofNat 32 d.val) 0#32) (IntOp.cmpi .sle (BitVec.ofNat 32 d.val) 32#32) = 1#1 := by decide
  exact key ⟨n b v, Nat.lt_succ_of_le (hn b v).1⟩

/-- The looked-up weights: those of the node's degree. -/
theorem RefDegrees.bank (hn : RefDegrees g n) (H : FVec Ideal S33x144x128 .f32) (b : Fin 64) (v : Fin 32) (i : Fin 144) (o : Fin 128) :
    val_main_v6 (F := Ideal) g H (ix4 b v i o) = H (ix3 ⟨n b v, Nat.lt_succ_of_le (hn b v).1⟩ i o) := by
  rw [val_main_v6_apply, val_main_call1_v14_apply]
  have hi : idx_main_call1_v14 (ix4 b v i o) = ix2 b v := by
    funext a; match a with
    | ⟨0, _⟩ => rfl
    | ⟨1, _⟩ => rfl
  rw [hi, hn.inside]
  show val_main_call1_v13 (F := Ideal) g H (ix4 b v i o) = _
  unfold val_main_call1_v13 Host.gather
  refine congrArg H ?_
  funext a
  refine Fin.ext ?_
  match a with
  | ⟨0, _⟩ =>
    show min (val_main_call1_v5 (F := Ideal) g _).toInt.toNat 32 + 0 + 0 = n b v
    have hs : ∀ j : S64x32x1.Idx, (j 0).val = b.val → (j 1).val = v.val → val_main_call1_v5 (F := Ideal) g j = BitVec.ofNat 32 (n b v) := by
      intro j h₀ h₁
      have hj : j = ix3 b v (j 2) := by
        funext a; match a with
        | ⟨0, _⟩ => exact Fin.ext h₀
        | ⟨1, _⟩ => exact Fin.ext h₁
        | ⟨2, _⟩ => rfl
      rw [hj]
      exact hn.start b v _
    rw [hs _ rfl rfl]
    have key : ∀ d : Fin 33, min (BitVec.ofNat 32 d.val).toInt.toNat 32 + 0 + 0 = d.val := by decide
    exact key ⟨n b v, Nat.lt_succ_of_le (hn b v).1⟩
  | ⟨1, _⟩ => exact Nat.zero_add _
  | ⟨2, _⟩ => exact Nat.zero_add _

/-- What one layer of the reference computes at a node: its degree's rows applied to the neighbour sum and to the edge sum. -/
def refLayer (g : FVec Ideal S64x32x32 .f32) (e : FVec Ideal S64x32x32x16 .f32) (h : FVec Ideal S64x32x128 .f32) (H : FVec Ideal S33x144x128 .f32)
    (d : Fin 33) (b : Fin 64) (v : Fin 32) (o : Fin 128) : EReal :=
  Ideal.logistic ((∑ i : Fin 128, (∑ w : Fin 32, g (ix3 b v w) * h (ix3 b w i)) * H (ix3 d ⟨i.val, by omega⟩ o))
    + ∑ j : Fin 16, (∑ w : Fin 32, g (ix3 b v w) * e (ix4 b v w j)) * H (ix3 d ⟨128 + j.val, by omega⟩ o))

/-- The reference's layer at a node: the logistic of its sums times the weights of its own degree. -/
theorem RefDegrees.layer (hn : RefDegrees g n) (e : FVec Ideal S64x32x32x16 .f32) (h : FVec Ideal S64x32x128 .f32) (H : FVec Ideal S33x144x128 .f32)
    (b : Fin 64) (v : Fin 32) (o : Fin 128) :
    val_main_v13 (F := Ideal) g h e H (ix3 b v o) = refLayer g e h H ⟨n b v, Nat.lt_succ_of_le (hn b v).1⟩ b v o := by
  have one : Ideal.ofBits .f32 0x3F800000#32 = 1 := by simp [Ideal.ofBits, Ideal.ieee]; rw [← EReal.coe_mul]; norm_num
  have hv : val_main_v13 (F := Ideal) g h e H (ix3 b v o) = Ideal.logistic (val_main_v7 (F := Ideal) g h e H (ix3 b v o)) := by
    show Ideal.div (Ideal.ofBits .f32 0x3F800000#32) (Ideal.ofBits .f32 0x3F800000#32 + Ideal.exp (-val_main_v7 (F := Ideal) g h e H (ix3 b v o))) = _
    rw [one]; rfl
  rw [hv, refLayer, val_main_v7_apply]
  refine congrArg Ideal.logistic ?_
  have hr : ∀ k : Fin 144, ridx_main_v7 (ix3 b v o) k = ix4 b v k o := fun k => by
    funext a; match a with
    | ⟨0, _⟩ => rfl
    | ⟨1, _⟩ => rfl
    | ⟨2, _⟩ => rfl
    | ⟨3, _⟩ => rfl
  have hl : ∀ k : Fin 144, lidx_main_v7 (ix3 b v o) k = ix3 b v k := fun k => by
    funext a; match a with
    | ⟨0, _⟩ => rfl
    | ⟨1, _⟩ => rfl
    | ⟨2, _⟩ => rfl
  simp only [hr, hl, hn.bank]
  refine (Fin.sum_univ_add (a := 128) (b := 16) _).trans (congrArg₂ (· + ·) (Finset.sum_congr rfl fun i _ => ?_) (Finset.sum_congr rfl fun j _ => ?_))
  · refine congrArg (· * _) ?_
    unfold val_main_v5
    refine (concatenate_pair_apply_left (t := S64x32x144) (s₁ := S64x32x128) (s₂ := S64x32x16) 2 _ _ _ _ rfl (ix3 b v i) fun a => ?_).trans ?_
    · match a with
      | ⟨0, _⟩ => rfl
      | ⟨1, _⟩ => rfl
      | ⟨2, _⟩ => rfl
    · rw [val_main_v3_apply]
      refine Finset.sum_congr rfl fun w _ => congrArg₂ (· * ·) (congrArg g ?_) (congrArg h ?_)
      · funext a; match a with
        | ⟨0, _⟩ => rfl
        | ⟨1, _⟩ => rfl
        | ⟨2, _⟩ => rfl
      · funext a; match a with
        | ⟨0, _⟩ => rfl
        | ⟨1, _⟩ => rfl
        | ⟨2, _⟩ => rfl
  · refine congrArg (· * _) ?_
    unfold val_main_v5
    refine (concatenate_pair_apply_right (t := S64x32x144) (s₁ := S64x32x128) (s₂ := S64x32x16) 2 _ _ _ _ rfl rfl (ix3 b v j) (fun a ha => ?_) ?_).trans ?_
    · match a with
      | ⟨0, _⟩ => rfl
      | ⟨1, _⟩ => rfl
      | ⟨2, _⟩ => exact absurd rfl ha
    · exact Nat.add_comm _ _
    · rw [val_main_v4_apply]
      refine Finset.sum_congr rfl fun w _ => congrArg₂ (· * ·) (congrArg g ?_) (congrArg e ?_)
      · funext a; match a with
        | ⟨0, _⟩ => rfl
        | ⟨1, _⟩ => rfl
        | ⟨2, _⟩ => rfl
      · funext a; match a with
        | ⟨0, _⟩ => rfl
        | ⟨1, _⟩ => rfl
        | ⟨2, _⟩ => rfl
        | ⟨3, _⟩ => rfl

/-- What one readout of the reference computes: the nodes' products with the readout weights, a node counted where its values do not sum to zero. -/
def refReadout (h : FVec Ideal S64x32x128 .f32) (W : FVec Ideal S128x128 .f32) (b : Fin 64) (o : Fin 128) : EReal :=
  ∑ v : Fin 32, (∑ k : Fin 128, h (ix3 b v k) * W (ix2 k o)) * ind (∑ k : Fin 128, h (ix3 b v k) ≠ 0)

/-- The reference's readout of one layer. -/
theorem readout_ref (h : FVec Ideal S64x32x128 .f32) (W : FVec Ideal S128x128 .f32) (b : Fin 64) (o : Fin 128) :
    val_main_v45 (F := Ideal) h W (ix2 b o) = refReadout h W b o := by
  rw [val_main_v45_apply, val_main_cst_10_apply, refReadout]
  refine (congrArg (· + _) Ideal.ofBits_zero_f32).trans ((zero_add _).trans (Finset.sum_congr rfl fun v _ => ?_))
  have hi : idx_main_v45 (ix2 b o) v = ix3 b v o := by
    funext a; match a with
    | ⟨0, _⟩ => rfl
    | ⟨1, _⟩ => rfl
    | ⟨2, _⟩ => rfl
  rw [hi, val_main_v44_apply]
  refine congrArg₂ (· * ·) ?_ ?_
  · rw [val_main_v37_apply]
    refine Finset.sum_congr rfl fun k _ => congrArg₂ (· * ·) (congrArg h ?_) (congrArg W ?_)
    · funext a; match a with
      | ⟨0, _⟩ => rfl
      | ⟨1, _⟩ => rfl
      | ⟨2, _⟩ => rfl
    · funext a; match a with
      | ⟨0, _⟩ => rfl
      | ⟨1, _⟩ => rfl
  · rw [val_main_v43_apply, val_main_v42_apply, val_main_v41_apply, val_main_v40_apply]
    have hj : idx_main_v42 (idx_main_v43 (ix3 b v o)) = ix2 b v := by
      funext a; match a with
      | ⟨0, _⟩ => rfl
      | ⟨1, _⟩ => rfl
    rw [hj, val_main_v38_apply, val_main_cst_8_apply]
    have e : (FloatOps.ofBits .f32 0x00000000#32 : Ideal .f32) + ∑ k : Fin 128, h (idx_main_v38 (ix2 b v) k) = ∑ k : Fin 128, h (ix3 b v k) := by
      refine (congrArg (· + _) Ideal.ofBits_zero_f32).trans ((zero_add _).trans (Finset.sum_congr rfl fun k _ => congrArg h ?_))
      funext a; match a with
      | ⟨0, _⟩ => rfl
      | ⟨1, _⟩ => rfl
      | ⟨2, _⟩ => rfl
    rw [e]
    generalize (∑ k : Fin 128, h (ix3 b v k)) = x
    show (((BitVec.ofBool (decide (x ≠ Ideal.ofBits .f32 0x00000000#32))).toNat : ℝ) : EReal) = _
    rw [Ideal.ofBits_zero_f32]
    by_cases hx : x = 0
    · rw [ind_false (by simpa using hx)]; simp [hx]
    · rw [ind_true hx]; simp [hx]

end Cert.Values

end
-- ==== Proof.RefNet.lean ====
/-
  The reference's last network read at an index over the extended reals, and its whole result in terms of its layers and readouts.
-/
module

public import proofs.«01_k».proof.Proof.Net
public import proofs.«01_k».proof.Proof.RefLayer

@[expose] public section

noncomputable section

open scoped BigOperators

namespace Cert.Values

open Idealize.ShloMosaic Idealize.ShloMosaic.ValueIdx
open Cert.ReferenceIdeal Cert.ReferenceIdeal.Gen Cert.ReferenceIdeal.Read

/-- The host's largest entry of a row. -/
theorem hostRowMax {k : ℕ} (x : FVec Ideal ⟨2, ![64, k]⟩ .f32) (h' : (⟨2, ![64, k]⟩ : Shape).ReducesTo [1] ⟨1, ![64]⟩)
    (h : (⟨2, ![64, k]⟩ : Shape).Reduces [1] ⟨1, ![64]⟩) (b : Fin 64) :
    Host.reduce FloatOps.maximumf x (constant S_ .f32 0xFF800000#32) h' h_S_ (ix1 b)
      = (Finset.univ : Finset (Fin k)).fold max (Ideal.ofBits .f32 0xFF800000#32) fun q => x (ix2 b q) := by
  refine (Host.reduce_eq_fold_single _ _ _ h' h _ _).trans (congrArg (fun f => Finset.fold max _ f _) (funext fun q => congrArg x ?_))
  funext a; match a with
  | ⟨0, _⟩ => rfl
  | ⟨1, _⟩ => rfl

/-- The host's sum of a row. -/
theorem hostRowSum {k : ℕ} (x : FVec Ideal ⟨2, ![64, k]⟩ .f32) (h' : (⟨2, ![64, k]⟩ : Shape).ReducesTo [1] ⟨1, ![64]⟩)
    (h : (⟨2, ![64, k]⟩ : Shape).Reduces [1] ⟨1, ![64]⟩) (b : Fin 64) :
    Host.reduceAdd x (constant (F := Ideal) S_ .f32 0x00000000#32) h' h_S_ (ix1 b) = ∑ q : Fin k, x (ix2 b q) := by
  refine (Ideal.hostReduceAdd_single h' h x _ _).trans ((congrArg (· + _) Ideal.ofBits_zero_f32).trans ((zero_add _).trans
    (Finset.sum_congr rfl fun q _ => congrArg x ?_)))
  funext a; match a with
  | ⟨0, _⟩ => rfl
  | ⟨1, _⟩ => rfl

/-- The reference's softmax along the rows. -/
theorem hostSoftRow {k : ℕ} (x : FVec Ideal ⟨2, ![64, k]⟩ .f32) (h' : (⟨2, ![64, k]⟩ : Shape).ReducesTo [1] ⟨1, ![64]⟩)
    (h : (⟨2, ![64, k]⟩ : Shape).Reduces [1] ⟨1, ![64]⟩) (h₁ : (⟨1, ![64]⟩ : Shape).BroadcastsInDim ⟨2, ![64, 1]⟩ ![0])
    (h₂ : (⟨2, ![64, 1]⟩ : Shape).BroadcastsInDim ⟨2, ![64, k]⟩ ![0, 1]) (b : Fin 64) (o : Fin k) :
    Host.divf
      (Host.exp (subf x (broadcastInDim ⟨2, ![64, k]⟩ ![0, 1] h₂ (broadcastInDim ⟨2, ![64, 1]⟩ ![0] h₁
        (maximumf (broadcastInDim S64 ![] bcast_S_S64 (constant (F := Ideal) S_ .f32 0xFF800000#32))
          (Host.reduce FloatOps.maximumf x (constant S_ .f32 0xFF800000#32) h' h_S_))))))
      (broadcastInDim ⟨2, ![64, k]⟩ ![0, 1] h₂ (broadcastInDim ⟨2, ![64, 1]⟩ ![0] h₁ (Host.reduceAdd
        (Host.exp (subf x (broadcastInDim ⟨2, ![64, k]⟩ ![0, 1] h₂ (broadcastInDim ⟨2, ![64, 1]⟩ ![0] h₁
          (maximumf (broadcastInDim S64 ![] bcast_S_S64 (constant (F := Ideal) S_ .f32 0xFF800000#32))
            (Host.reduce FloatOps.maximumf x (constant S_ .f32 0xFF800000#32) h' h_S_))))))
        (constant S_ .f32 0x00000000#32) h' h_S_))) (ix2 b o)
      = softRow (fun q => x (ix2 b q)) o := by
  have hcol : ∀ (y : FVec Ideal ⟨1, ![64]⟩ .f32) (q : Fin k),
      broadcastInDim ⟨2, ![64, k]⟩ ![0, 1] h₂ (broadcastInDim ⟨2, ![64, 1]⟩ ![0] h₁ y) (ix2 b q) = y (ix1 b) := by
    intro y q
    refine (broadcastInDim_apply _ _ _ _ (ix2 b 0) fun a => ?_).trans (broadcastInDim_apply _ _ _ _ (ix1 b) fun a => ?_)
    · match a with
      | ⟨0, _⟩ => rfl
      | ⟨1, _⟩ => rfl
    · match a with
      | ⟨0, _⟩ => rfl
  have ht : ∀ q : Fin k, (Host.exp (subf x (broadcastInDim ⟨2, ![64, k]⟩ ![0, 1] h₂ (broadcastInDim ⟨2, ![64, 1]⟩ ![0] h₁
        (maximumf (broadcastInDim S64 ![] bcast_S_S64 (constant (F := Ideal) S_ .f32 0xFF800000#32))
          (Host.reduce FloatOps.maximumf x (constant S_ .f32 0xFF800000#32) h' h_S_))))) : FVec Ideal ⟨2, ![64, k]⟩ .f32) (ix2 b q)
      = Ideal.exp (x (ix2 b q) - rowTop fun q => x (ix2 b q)) := by
    intro q
    refine congrArg (fun t => Ideal.exp (x (ix2 b q) - t)) ((hcol _ q).trans ?_)
    exact congrArg (max _) (hostRowMax x h' h b)
  refine congrArg₂ Ideal.div (ht o) ((hcol _ o).trans ((hostRowSum _ h' h b).trans (Finset.sum_congr rfl fun q _ => ht q)))

variable (x0 : FVec Ideal S64x32x32 .f32) (x1 : FVec Ideal S64x32x128 .f32) (x2 : FVec Ideal S64x32x32x16 .f32) (x3 x4 x5 : FVec Ideal S33x144x128 .f32)
  (x6 x7 x8 x9 x10 : FVec Ideal S128x128 .f32) (x11 : FVec Ideal S128 .f32) (x12 : FVec Ideal S128x256 .f32) (x13 : FVec Ideal S256 .f32)
  (x14 : FVec Ideal S256x128 .f32) (x15 : FVec Ideal S128 .f32) (x16 : FVec Ideal S128x12 .f32) (x17 : FVec Ideal S12 .f32)

/-- The reference's first dense layer, on its readouts' sum. -/
theorem ref_head (b : Fin 64) (o : Fin 128) :
    val_main_v91 (F := Ideal) x0 x1 x2 x3 x4 x5 x6 x7 x8 x9 x10 x11 (ix2 b o)
      = netHead (fun q => val_main_v76 (F := Ideal) x0 x1 x2 x3 x4 x5 x6 x7 x8 x9 (ix2 b q)) (mat x10) (fun q => x11 (ix1 q)) o := by
  rw [val_main_v91_apply, val_main_v88_apply, val_main_v90_apply, val_main_v89_apply]
  refine congrArg₂ (· + ·) (Finset.sum_congr rfl fun i _ => congrArg₂ (· * ·) ?_ (congrArg x10 ?_)) (congrArg x11 ?_)
  · have hi : lidx_main_v88 (ix2 b o) i = ix2 b i := by
      funext a; match a with
      | ⟨0, _⟩ => rfl
      | ⟨1, _⟩ => rfl
    rw [hi]
    exact hostSoftRow (val_main_v76 (F := Ideal) x0 x1 x2 x3 x4 x5 x6 x7 x8 x9) reducesTo_S64x128_S64_d1 (by decide) bcast_S64_S64x1_0 bcast_S64x1_S64x128_0_1 b i
  · funext a; match a with
    | ⟨0, _⟩ => rfl
    | ⟨1, _⟩ => rfl
  · funext a; match a with
    | ⟨0, _⟩ => rfl

/-- The reference's remaining dense layers, the logistic and the last softmax. -/
theorem ref_tail (b : Fin 64) (o : Fin 12) :
    val_main_v123 (F := Ideal) x0 x1 x2 x3 x4 x5 x6 x7 x8 x9 x10 x11 x12 x13 x14 x15 x16 x17 (ix2 b o)
      = netTail (fun q => val_main_v91 (F := Ideal) x0 x1 x2 x3 x4 x5 x6 x7 x8 x9 x10 x11 (ix2 b q)) (mat x12) (fun q => x13 (ix1 q)) (mat x14)
          (fun q => x15 (ix1 q)) (mat x16) (fun q => x17 (ix1 q)) o := by
  have one : Ideal.ofBits .f32 0x3F800000#32 = 1 := by simp [Ideal.ofBits, Ideal.ieee]; rw [← EReal.coe_mul]; norm_num
  refine (hostSoftRow (val_main_v112 (F := Ideal) x0 x1 x2 x3 x4 x5 x6 x7 x8 x9 x10 x11 x12 x13 x14 x15 x16 x17) reducesTo_S64x12_S64_d1 (by decide)
    bcast_S64_S64x1_0 bcast_S64x1_S64x12_0_1 b o).trans (congrArg (fun f => softRow f o) (funext fun q => ?_))
  have hv : val_main_v112 (F := Ideal) x0 x1 x2 x3 x4 x5 x6 x7 x8 x9 x10 x11 x12 x13 x14 x15 x16 x17 (ix2 b q)
      = Ideal.logistic (val_main_v106 (F := Ideal) x0 x1 x2 x3 x4 x5 x6 x7 x8 x9 x10 x11 x12 x13 x14 x15 x16 x17 (ix2 b q)) := by
    show Ideal.div (Ideal.ofBits .f32 0x3F800000#32) (Ideal.ofBits .f32 0x3F800000#32
      + Ideal.exp (-val_main_v106 (F := Ideal) x0 x1 x2 x3 x4 x5 x6 x7 x8 x9 x10 x11 x12 x13 x14 x15 x16 x17 (ix2 b q))) = _
    rw [one]; rfl
  refine hv.trans (congrArg Ideal.logistic ?_)
  rw [val_main_v106_apply, val_main_v103_apply, val_main_v105_apply, val_main_v104_apply]
  refine congrArg₂ (· + ·) (Finset.sum_congr rfl fun i _ => congrArg₂ (· * ·) ?_ (congrArg x16 ?_)) (congrArg x17 ?_)
  rotate_left
  · funext a; match a with
    | ⟨0, _⟩ => rfl
    | ⟨1, _⟩ => rfl
  · funext a; match a with
    | ⟨0, _⟩ => rfl
  have hi : lidx_main_v103 (ix2 b q) i = ix2 b i := by
    funext a; match a with
    | ⟨0, _⟩ => rfl
    | ⟨1, _⟩ => rfl
  rw [hi, val_main_v102_apply]
  refine congrArg (fun t => max t (Ideal.ofBits .f32 0x00000000#32)) ?_
  rw [val_main_v101_apply, val_main_v98_apply, val_main_v100_apply, val_main_v99_apply]
  refine congrArg₂ (· + ·) (Finset.sum_congr rfl fun j _ => congrArg₂ (· * ·) ?_ (congrArg x14 ?_)) (congrArg x15 ?_)
  rotate_left
  · funext a; match a with
    | ⟨0, _⟩ => rfl
    | ⟨1, _⟩ => rfl
  · funext a; match a with
    | ⟨0, _⟩ => rfl
  have hj : lidx_main_v98 (ix2 b i) j = ix2 b j := by
    funext a; match a with
    | ⟨0, _⟩ => rfl
    | ⟨1, _⟩ => rfl
  rw [hj, val_main_v97_apply]
  refine congrArg (fun t => max t (Ideal.ofBits .f32 0x00000000#32)) ?_
  rw [val_main_v96_apply, val_main_v93_apply, val_main_v95_apply, val_main_v94_apply]
  refine congrArg₂ (· + ·) (Finset.sum_congr rfl fun k _ => congrArg₂ (· * ·) ?_ (congrArg x12 ?_)) (congrArg x13 ?_)
  rotate_left
  · funext a; match a with
    | ⟨0, _⟩ => rfl
    | ⟨1, _⟩ => rfl
  · funext a; match a with
    | ⟨0, _⟩ => rfl
  have hk : lidx_main_v93 (ix2 b j) k = ix2 b k := by
    funext a; match a with
    | ⟨0, _⟩ => rfl
    | ⟨1, _⟩ => rfl
  rw [hk, val_main_v92_apply]
  rfl

/-! ## The later layers and readouts are the first ones, applied again -/

/-- The second layer is the first one, on the first one's values. -/
theorem ref_layer1 : val_main_v24 (F := Ideal) x0 x1 x2 x3 x4 = val_main_v13 (F := Ideal) x0 (val_main_v13 (F := Ideal) x0 x1 x2 x3) x2 x4 := rfl

/-- The third layer is the first one, on the second one's values. -/
theorem ref_layer2 : val_main_v35 (F := Ideal) x0 x1 x2 x3 x4 x5 = val_main_v13 (F := Ideal) x0 (val_main_v24 (F := Ideal) x0 x1 x2 x3 x4) x2 x5 := rfl

/-- The readouts' sum. -/
theorem ref_readouts (b : Fin 64) (q : Fin 128) :
    val_main_v76 (F := Ideal) x0 x1 x2 x3 x4 x5 x6 x7 x8 x9 (ix2 b q)
      = refReadout x1 x6 b q + refReadout (val_main_v13 (F := Ideal) x0 x1 x2 x3) x7 b q
        + refReadout (val_main_v24 (F := Ideal) x0 x1 x2 x3 x4) x8 b q + refReadout (val_main_v35 (F := Ideal) x0 x1 x2 x3 x4 x5) x9 b q := by
  rw [← readout_ref, ← readout_ref, ← readout_ref, ← readout_ref]
  show Ideal.ofBits .f32 0x00000000#32 + val_main_v45 (F := Ideal) x1 x6 (ix2 b q) + _ + _ + _ = _
  rw [Ideal.ofBits_zero_f32, zero_add]
  rfl

end Cert.Values

end
-- ==== Proof.Match.lean ====
/-
  The kernel's value and the reference's are one: the kernel keeps the 64 graphs' 32 nodes as 2048 rows and sums a readout's nodes
  before multiplying by the weights, the reference keeps the graphs apart and multiplies first.
-/
module

public import proofs.«01_k».proof.Proof.Pieces
public import proofs.«01_k».proof.Proof.Accum
public import proofs.«01_k».proof.Proof.Net
public import proofs.«01_k».proof.Proof.RefLayer
public import proofs.«01_k».proof.Proof.RefNet

@[expose] public section

noncomputable section

open scoped BigOperators

namespace Cert.Values

open Idealize.ShloMosaic Idealize.ShloMosaic.ValueIdx
open Cert.KernelIdeal (S2048x32 S2048x512 S2048x128)
open Cert.KernelIdeal.Hand Cert.ReferenceIdeal Cert.ReferenceIdeal.Read

/-! ## Sums exchanged -/

/-- Entries none of which is negative: their sum times a factor is the sum of the products. -/
theorem sum_mul_nonneg {k : ℕ} (x : Fin k → EReal) (h : ∀ v, 0 ≤ x v) (w : EReal) : (∑ v, x v) * w = ∑ v, x v * w := by
  classical
  have key : ∀ s : Finset (Fin k), (∑ v ∈ s, x v) * w = ∑ v ∈ s, x v * w := fun s => by
    induction s using Finset.induction_on with
    | empty => simp
    | insert a s ha ih =>
      rw [Finset.sum_insert ha, Finset.sum_insert ha, EReal.right_distrib_of_nonneg (h a) (Finset.sum_nonneg fun v _ => h v), ih]
  exact key Finset.univ

/-- Real entries and a real factor: the same. -/
theorem sum_mul_real {k : ℕ} (x : Fin k → ℝ) (w : ℝ) : (∑ v, (x v : EReal)) * (w : EReal) = ∑ v, (x v : EReal) * (w : EReal) := by
  classical
  have sum : ∀ (y : Fin k → ℝ) (s : Finset (Fin k)), ∑ v ∈ s, (y v : EReal) = ((∑ v ∈ s, y v : ℝ) : EReal) := fun y s => by
    induction s using Finset.induction_on with
    | empty => simp
    | insert a s ha ih => rw [Finset.sum_insert ha, Finset.sum_insert ha, ih, EReal.coe_add]
  simp only [← EReal.coe_mul]
  rw [sum x, sum (fun v => x v * w), ← EReal.coe_mul, Finset.sum_mul]

/-- Weights applied after the sum over the kept nodes, or before it: the same, where the products go through the sums. -/
theorem sum_exchange {n k : ℕ} (h : Fin n → Fin k → EReal) (p : Fin n → Prop) [∀ v, Decidable (p v)] (W : Fin k → EReal)
    (hd : ∀ i, (∑ v, h v i * ind (p v)) * W i = ∑ v, h v i * ind (p v) * W i) :
    ∑ i, (∑ v, h v i * ind (p v)) * W i = ∑ v, (∑ i, h v i * W i) * ind (p v) := by
  rw [Finset.sum_congr rfl fun i _ => hd i, Finset.sum_comm]
  refine Finset.sum_congr rfl fun v _ => ?_
  by_cases hv : p v
  · simp [ind_true hv]
  · simp [ind_false hv]

/-- The logistic is never negative. -/
theorem logistic_nonneg (x : EReal) : 0 ≤ Ideal.logistic x := by
  induction x with
  | bot => simp
  | coe r => rw [Ideal.logistic_coe]; exact EReal.coe_nonneg.mpr (by positivity)
  | top => simp

/-- The logistic of an array, at an index. -/
theorem logistic_at {s : Shape} (x : FVec Ideal s .f32) (i : s.Idx) : logistic x i = Ideal.logistic (x i) := rfl

/-! ## The two arrangements of the nodes -/

/-- Node `v` of graph `b` among the kernel's rows. -/
abbrev node (b : Fin 64) (v : Fin 32) : Fin 2048 := ⟨32 * b.val + v.val, by omega⟩

/-- Every row is a graph's node. -/
theorem node_div_mod (p : Fin 2048) : node ⟨p.val / 32, by omega⟩ ⟨p.val % 32, by omega⟩ = p := Fin.ext (Nat.div_add_mod p.val 32)

/-- A node's neighbours lie in its own graph. -/
theorem nbr_node (b : Fin 64) (v w : Fin 32) : nbr (node b v) w = node b w := Fin.ext (by simp; omega)

variable {gK : Vec Ideal S2048x32 .f32} {g : FVec Ideal S64x32x32 .f32} {n : Fin 64 → Fin 32 → ℕ}
  {eK : Vec Ideal S2048x512 .f32} {e : FVec Ideal S64x32x32x16 .f32} {hK : FVec Ideal S2048x128 .f32} {h : FVec Ideal S64x32x128 .f32}

/-- The degrees, row by row. -/
theorem RefDegrees.flat (hn : RefDegrees g n) (hg : ∀ b v w, gK (ix2 (node b v) w) = g (ix3 b v w)) :
    Degrees gK (fun p => n ⟨p.val / 32, by omega⟩ ⟨p.val % 32, by omega⟩) := fun p => by
  have := hn ⟨p.val / 32, by omega⟩ ⟨p.val % 32, by omega⟩
  refine ⟨this.1, Eq.trans (Finset.sum_congr rfl fun w _ => ?_) this.2⟩
  rw [← hg, node_div_mod]

/-- One layer: the kernel's rows hold what the reference's nodes hold. -/
theorem layer_eq (hn : RefDegrees g n) (hg : ∀ b v w, gK (ix2 (node b v) w) = g (ix3 b v w))
    (he : ∀ b v w j, eK (ix2 (node b v) (lane w j)) = e (ix4 b v w j)) (hh : ∀ b v i, hK (ix2 (node b v) i) = h (ix3 b v i))
    (H : FVec Ideal S33x144x128 .f32) (b : Fin 64) (v : Fin 32) (o : Fin 128) :
    layer gK eK H hK (ix2 (node b v) o) = val_main_v13 (F := Ideal) g h e H (ix3 b v o) := by
  rw [hn.layer]
  have hl : layer gK eK H hK (ix2 (node b v) o) = Ideal.logistic (acc7 gK (nodeSum gK hK) (edgeSum gK eK) H (ix2 (node b v) o)) := by
    unfold layer; exact logistic_at _ _
  rw [hl, refLayer]
  refine congrArg Ideal.logistic ?_
  rw [(hn.flat hg).acc7]
  have hd : (⟨n ⟨(node b v).val / 32, by omega⟩ ⟨(node b v).val % 32, by omega⟩, Nat.lt_succ_of_le ((hn.flat hg) (node b v)).1⟩ : Fin 33)
      = ⟨n b v, Nat.lt_succ_of_le (hn b v).1⟩ :=
    Fin.ext (congrArg₂ n (Fin.ext (by simp; omega)) (Fin.ext (by simp [Nat.mod_eq_of_lt v.isLt])))
  rw [hd]
  refine congrArg₂ (· + ·) (Finset.sum_congr rfl fun i _ => congrArg (· * _) ?_) (Finset.sum_congr rfl fun j _ => congrArg (· * _) ?_)
  · rw [nodeSum_ix]
    exact Finset.sum_congr rfl fun w _ => by rw [hg, nbr_node, hh]
  · rw [edgeSum_ix]
    exact Finset.sum_congr rfl fun w _ => by rw [hg, he]

/-- A layer's values are never negative. -/
theorem layer_nonneg (hn : RefDegrees g n) (H : FVec Ideal S33x144x128 .f32) (b : Fin 64) (v : Fin 32) (o : Fin 128) :
    0 ≤ val_main_v13 (F := Ideal) g h e H (ix3 b v o) := by
  rw [hn.layer]; exact logistic_nonneg _

/-- A readout, where no node value is negative. -/
theorem readout_eq_nonneg (hh : ∀ b v i, hK (ix2 (node b v) i) = h (ix3 b v i)) (h0 : ∀ b v i, 0 ≤ h (ix3 b v i))
    (W : FVec Ideal S128x128 .f32) (b : Fin 64) (o : Fin 128) : readout hK W (ix2 b o) = refReadout h W b o := by
  rw [readout_ix]
  simp only [hh]
  refine sum_exchange (fun v i => h (ix3 b v i)) _ (fun i => W (ix2 i o)) fun i => sum_mul_nonneg _ (fun v => ?_) _
  rw [ind_mul]; split
  · exact h0 b v i
  · exact le_refl _

/-- A readout, where the node values and the weights are real. -/
theorem readout_eq_real (hh : ∀ b v i, hK (ix2 (node b v) i) = h (ix3 b v i)) (hr : ∀ i, ∃ r : ℝ, h i = r)
    (W : FVec Ideal S128x128 .f32) (hW : ∀ i, ∃ r : ℝ, W i = r) (b : Fin 64) (o : Fin 128) : readout hK W (ix2 b o) = refReadout h W b o := by
  rw [readout_ix]
  simp only [hh]
  refine sum_exchange (fun v i => h (ix3 b v i)) _ (fun i => W (ix2 i o)) fun i => ?_
  obtain ⟨w, hw⟩ := hW (ix2 i o)
  choose x hx using hr
  have hm : ∀ v : Fin 32, h (ix3 b v i) * ind (∑ q : Fin 128, h (ix3 b v q) ≠ 0)
      = (((if ∑ q : Fin 128, h (ix3 b v q) ≠ 0 then x (ix3 b v i) else 0) : ℝ) : EReal) := fun v => by
    rw [ind_mul, hx]; split <;> simp
  simp only [hm, hw]
  exact sum_mul_real _ w

/-! ## The whole value -/

/-- What the kernel's body leaves is the reference's result. -/
theorem result_eq (hn : RefDegrees g n) (hg : ∀ b v w, gK (ix2 (node b v) w) = g (ix3 b v w))
    (he : ∀ b v w j, eK (ix2 (node b v) (lane w j)) = e (ix4 b v w j)) (hh : ∀ b v i, hK (ix2 (node b v) i) = h (ix3 b v i))
    (H₀ H₁ H₂ : FVec Ideal S33x144x128 .f32) (W₀ W₁ W₂ W₃ N₀ : FVec Ideal S128x128 .f32) (c₀ : FVec Ideal S1x128 .f32) (b₀ : FVec Ideal S128 .f32)
    (N₁ : FVec Ideal S128x256 .f32) (c₁ : FVec Ideal S1x256 .f32) (b₁ : FVec Ideal S256 .f32) (N₂ : FVec Ideal S256x128 .f32)
    (c₂ : FVec Ideal S1x128 .f32) (b₂ : FVec Ideal S128 .f32) (N₃ : FVec Ideal S128x12 .f32) (c₃ : FVec Ideal S1x12 .f32) (b₃ : FVec Ideal S12 .f32)
    (hb₀ : ∀ q, c₀ (ix2 0 q) = b₀ (ix1 q)) (hb₁ : ∀ q, c₁ (ix2 0 q) = b₁ (ix1 q)) (hb₂ : ∀ q, c₂ (ix2 0 q) = b₂ (ix1 q))
    (hb₃ : ∀ q, c₃ (ix2 0 q) = b₃ (ix1 q)) (hr : ∀ i, ∃ r : ℝ, h i = r) (hW : ∀ i, ∃ r : ℝ, W₀ i = r) (b : Fin 64) (o : Fin 12) :
    result gK eK hK H₀ H₁ H₂ W₀ W₁ W₂ W₃ N₀ c₀ N₁ c₁ N₂ c₂ N₃ c₃ (ix2 b o)
      = val_main_v123 (F := Ideal) g h e H₀ H₁ H₂ W₀ W₁ W₂ W₃ N₀ b₀ N₁ b₁ N₂ b₂ N₃ b₃ (ix2 b o) := by
  have hid : hid0 hK = hK := by
    unfold hid0; rw [whole_eq]; exact shapeCast_self _ _
  have l₀ := layer_eq (h := h) hn hg he hh H₀
  have l₁ := layer_eq hn hg he l₀ H₁
  have l₂ := layer_eq hn hg he l₁ H₂
  have r₀ := readout_eq_real hh hr W₀ hW
  have r₁ := readout_eq_nonneg l₀ (layer_nonneg hn H₀) W₁
  have r₂ := readout_eq_nonneg l₁ (layer_nonneg hn H₁) W₂
  have r₃ := readout_eq_nonneg l₂ (layer_nonneg hn H₂) W₃
  rw [ref_tail]
  simp only [ref_head, ref_readouts]
  unfold result
  simp only [whole_eq, hid]
  rw [pay194_ix]
  simp only [pay193_ix, hb₀, hb₁, hb₂, hb₃]
  refine congrArg (fun x => netTail (fun q => netHead x _ _ q) _ _ _ _ _ _ o) (funext fun q => ?_)
  refine congrArg₂ (· + ·) (congrArg₂ (· + ·) (congrArg₂ (· + ·) ?_ ?_) ?_) ?_
  · rw [hid, whole_eq]; exact r₀ b q
  · rw [hid, whole_eq]; exact r₁ b q
  · rw [hid, whole_eq, ref_layer1]; exact r₂ b q
  · rw [ref_layer2, ref_layer1]; exact r₃ b q

end Cert.Values

end
-- ==== Proof.KernelIdealValue.lean ====
/-
  What the kernel's run leaves in its result array, read over the extended reals: `result` of the argument arrays, the adjacency,
  the edge values, the node values and the four biases reshaped.
-/
module

public import proofs.«01_k».proof.Proof.KernelIdealFrame
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Window 0's block is argument 0, reshaped. -/
theorem iblk0_eq (c : Dev nD) : iblk m c 0 t0_0 = shapeCast S2048x32 (m ((c : Thread nD τ).loc main_arg0)) shapeCasts_S64x32x32_S2048x32 := by
  have hi : win0_0.index t0_0 = ![0, 0] := by decide +kernel
  blk_ext! [iblk, V, hi]

/-- Window 1's block is argument 2, reshaped. -/
theorem iblk1_eq (c : Dev nD) : iblk m c 1 t0_0 = shapeCast S2048x512 (m ((c : Thread nD τ).loc main_arg2)) shapeCasts_S64x32x32x16_S2048x512 := by
  have hi : win0_1.index t0_0 = ![0, 0] := by decide +kernel
  blk_ext! [iblk, V, hi]

/-- Window 2's block is argument 1, reshaped. -/
theorem iblk2_eq (c : Dev nD) : iblk m c 2 t0_0 = shapeCast S2048x128 (m ((c : Thread nD τ).loc main_arg1)) shapeCasts_S64x32x128_S2048x128 := by
  have hi : win0_2.index t0_0 = ![0, 0] := by decide +kernel
  blk_ext! [iblk, V, hi]

/-- Window 3's block is argument 3. -/
theorem iblk3_eq (c : Dev nD) : iblk m c 3 t0_0 = m ((c : Thread nD τ).loc main_arg3) := by
  have hi : win0_3.index t0_0 = ![0, 0, 0] := by decide +kernel
  blk_ext! [iblk, V, hi]

/-- Window 4's block is argument 4. -/
theorem iblk4_eq (c : Dev nD) : iblk m c 4 t0_0 = m ((c : Thread nD τ).loc main_arg4) := by
  have hi : win0_4.index t0_0 = ![0, 0, 0] := by decide +kernel
  blk_ext! [iblk, V, hi]

/-- Window 5's block is argument 5. -/
theorem iblk5_eq (c : Dev nD) : iblk m c 5 t0_0 = m ((c : Thread nD τ).loc main_arg5) := by
  have hi : win0_5.index t0_0 = ![0, 0, 0] := by decide +kernel
  blk_ext! [iblk, V, hi]

/-- Window 6's block is argument 6. -/
theorem iblk6_eq (c : Dev nD) : iblk m c 6 t0_0 = m ((c : Thread nD τ).loc main_arg6) := by
  have hi : win0_6.index t0_0 = ![0, 0] := by decide +kernel
  blk_ext! [iblk, V, hi]

/-- Window 7's block is argument 7. -/
theorem iblk7_eq (c : Dev nD) : iblk m c 7 t0_0 = m ((c : Thread nD τ).loc main_arg7) := by
  have hi : win0_7.index t0_0 = ![0, 0] := by decide +kernel
  blk_ext! [iblk, V, hi]

/-- Window 8's block is argument 8. -/
theorem iblk8_eq (c : Dev nD) : iblk m c 8 t0_0 = m ((c : Thread nD τ).loc main_arg8) := by
  have hi : win0_8.index t0_0 = ![0, 0] := by decide +kernel
  blk_ext! [iblk, V, hi]

/-- Window 9's block is argument 9. -/
theorem iblk9_eq (c : Dev nD) : iblk m c 9 t0_0 = m ((c : Thread nD τ).loc main_arg9) := by
  have hi : win0_9.index t0_0 = ![0, 0] := by decide +kernel
  blk_ext! [iblk, V, hi]

/-- Window 10's block is argument 10. -/
theorem iblk10_eq (c : Dev nD) : iblk m c 10 t0_0 = m ((c : Thread nD τ).loc main_arg10) := by
  have hi : win0_10.index t0_0 = ![0, 0] := by decide +kernel
  blk_ext! [iblk, V, hi]

/-- Window 11's block is argument 11, reshaped. -/
theorem iblk11_eq (c : Dev nD) : iblk m c 11 t0_0 = shapeCast S1x128 (m ((c : Thread nD τ).loc main_arg11)) shapeCasts_S128_S1x128 := by
  have hi : win0_11.index t0_0 = ![0, 0] := by decide +kernel
  blk_ext! [iblk, V, hi]

/-- Window 12's block is argument 12. -/
theorem iblk12_eq (c : Dev nD) : iblk m c 12 t0_0 = m ((c : Thread nD τ).loc main_arg12) := by
  have hi : win0_12.index t0_0 = ![0, 0] := by decide +kernel
  blk_ext! [iblk, V, hi]

/-- Window 13's block is argument 13, reshaped. -/
theorem iblk13_eq (c : Dev nD) : iblk m c 13 t0_0 = shapeCast S1x256 (m ((c : Thread nD τ).loc main_arg13)) shapeCasts_S256_S1x256 := by
  have hi : win0_13.index t0_0 = ![0, 0] := by decide +kernel
  blk_ext! [iblk, V, hi]

/-- Window 14's block is argument 14. -/
theorem iblk14_eq (c : Dev nD) : iblk m c 14 t0_0 = m ((c : Thread nD τ).loc main_arg14) := by
  have hi : win0_14.index t0_0 = ![0, 0] := by decide +kernel
  blk_ext! [iblk, V, hi]

/-- Window 15's block is argument 15, reshaped. -/
theorem iblk15_eq (c : Dev nD) : iblk m c 15 t0_0 = shapeCast S1x128 (m ((c : Thread nD τ).loc main_arg15)) shapeCasts_S128_S1x128 := by
  have hi : win0_15.index t0_0 = ![0, 0] := by decide +kernel
  blk_ext! [iblk, V, hi]

/-- Window 16's block is argument 16. -/
theorem iblk16_eq (c : Dev nD) : iblk m c 16 t0_0 = m ((c : Thread nD τ).loc main_arg16) := by
  have hi : win0_16.index t0_0 = ![0, 0] := by decide +kernel
  blk_ext! [iblk, V, hi]

/-- Window 17's block is argument 17, reshaped. -/
theorem iblk17_eq (c : Dev nD) : iblk m c 17 t0_0 = shapeCast S1x12 (m ((c : Thread nD τ).loc main_arg17)) shapeCasts_S12_S1x12 := by
  have hi : win0_17.index t0_0 = ![0, 0] := by decide +kernel
  blk_ext! [iblk, V, hi]

/-- The kernel's result, of the argument arrays. -/
def value (c : Dev nD) : FVec Ideal S64x12 .f32 :=
  result (shapeCast S2048x32 (m ((c : Thread nD τ).loc main_arg0)) shapeCasts_S64x32x32_S2048x32)
    (shapeCast S2048x512 (m ((c : Thread nD τ).loc main_arg2)) shapeCasts_S64x32x32x16_S2048x512)
    (shapeCast S2048x128 (m ((c : Thread nD τ).loc main_arg1)) shapeCasts_S64x32x128_S2048x128) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (shapeCast S1x128 (m ((c : Thread nD τ).loc main_arg11)) shapeCasts_S128_S1x128)
    (m ((c : Thread nD τ).loc main_arg12)) (shapeCast S1x256 (m ((c : Thread nD τ).loc main_arg13)) shapeCasts_S256_S1x256)
    (m ((c : Thread nD τ).loc main_arg14)) (shapeCast S1x128 (m ((c : Thread nD τ).loc main_arg15)) shapeCasts_S128_S1x128)
    (m ((c : Thread nD τ).loc main_arg16)) (shapeCast S1x12 (m ((c : Thread nD τ).loc main_arg17)) shapeCasts_S12_S1x12)

/-- What the body leaves at the one point. -/
theorem out_eq (c : Dev nD) : out m c t0_0 = value m c := by
  unfold out value
  rw [iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq, iblk17_eq]

/-- The result array after the run. -/
theorem final_eq (c : Dev nD) : (dats m 0 c).arrAt 18 cfg0.N = value m c := by
  refine (dats m 0 c).arrAt_eq_of_after_last 18 t0_0 (by decide +kernel) _ fun j => ?_
  blk_simp
  exact congrFun (out_eq m c) j

/-- The kernel runs to the end, its result array at `value`. -/
theorem run_value : θ_run defs (onTc (τ := τ) (main (F := Ideal))) ⟨m, fun _ => 0, ρ⟩
    (fun r => ∀ c : Dev nD, r.2.mem ((c.tc : Thread nD τ).loc main_v0) = value m c) :=
  (θ_run defs _ _).mono (fun _ h c => (h.out_eq c 18).trans (final_eq m c)) (run_main m ρ)

end Cert.KernelIdeal.Hand

end
-- ==== Proof.Values.lean ====
/-
  The kernel and the reference, run from the same arguments, end with one result: the precondition read as facts about the entries,
  the kernel's reshaped arguments read at an index, and the two runs put together.
-/
module

public import proofs.«01_k».proof.Defs
public import proofs.«01_k».proof.Proof.Match
public import proofs.«01_k».proof.Proof.KernelIdealValue
public import proofs.«01_k».proof.Proof.Gen.ReferenceIdeal
public import proofs.«01_k».proof.Proof.Gen.ReferenceIdeal.Run
public import proofs.«01_k».proof.Proof.Gen.ReferenceIdeal.Read

@[expose] public section

noncomputable section

open scoped BigOperators

namespace Cert.Values

open Idealize.ShloMosaic hiding ix1 ix2 ix3 ix4 eq_ix2
open Idealize.ShloMosaic.ValueIdx Idealize.SL.Sem
open Cert.KernelIdeal (S2048x32 S2048x512 S2048x128)
open Cert.KernelIdeal.Hand Cert.ReferenceIdeal Cert.ReferenceIdeal.Read

/-! ## The precondition's entries -/

/-- The precondition's shape relations. -/
theorem preFacts : Cert.Pre_adjacency_and_finite.Facts := ⟨by decide, by decide, by decide⟩

/-- An entry the first test accepts is zero or one. -/
theorem zero_or_one (x : EReal)
    (h : BitVec.ofBool (decide (x = Ideal.ofBits .f32 0x00000000#32)) ||| BitVec.ofBool (decide (x = Ideal.ofBits .f32 0x3F800000#32)) = 1#1) :
    x = 0 ∨ x = 1 := by
  have one : Ideal.ofBits .f32 0x3F800000#32 = 1 := by simp [Ideal.ofBits, Ideal.ieee]; rw [← EReal.coe_mul]; norm_num
  rw [Ideal.ofBits_zero_f32, one] at h
  by_cases h0 : x = 0
  · exact .inl h0
  · by_cases h1 : x = 1
    · exact .inr h1
    · simp [h0, h1] at h

/-- An entry the other tests accept is real. -/
theorem real_of_abs_lt (x : EReal) (h : BitVec.ofBool (decide (max x (-x) < Ideal.ofBits .f32 0x7F800000#32)) = 1#1) : ∃ r : ℝ, x = r := by
  have inf : Ideal.ofBits .f32 0x7F800000#32 = ⊤ := by simp [Ideal.ofBits, Ideal.ieee]
  rw [ofBool_decide_eq_one, inf] at h
  induction x with
  | bot => simp at h
  | coe r => exact ⟨r, rfl⟩
  | top => simp at h

/-- Where every entry is zero or one, a node's degree is the number of its ones. -/
theorem degrees_of_entries (g : FVec Ideal S64x32x32 .f32) (h : ∀ i, g i = 0 ∨ g i = 1) :
    RefDegrees g (fun b v => (Finset.univ.filter fun w : Fin 32 => g (ix3 b v w) = 1).card) := fun b v => by
  refine ⟨(Finset.card_filter_le _ _).trans (by simp), ?_⟩
  have hg : ∀ w : Fin 32, g (ix3 b v w) = if g (ix3 b v w) = 1 then 1 else 0 := fun w => by
    rcases h (ix3 b v w) with h0 | h1
    · simp [h0]
    · simp [h1]
  rw [Finset.sum_congr rfl fun w _ => hg w, Finset.sum_ite, Finset.sum_const_zero, add_zero, Finset.sum_const, nsmul_one]
  rfl

/-! ## The kernel's reshaped arguments, at an index -/

variable {α : Type}

/-- The adjacency's rows. -/
theorem flat3_ix (x : (⟨3, ![64, 32, 32]⟩ : Shape).Idx → α) (h : (⟨3, ![64, 32, 32]⟩ : Shape).ShapeCasts ⟨2, ![2048, 32]⟩)
    (b : Fin 64) (v w : Fin 32) : shapeCast ⟨2, ![2048, 32]⟩ x h (ix2 (node b v) w) = x (ix3 b v w) := by
  refine shapeCast_apply _ _ _ _ ?_
  rw [Shape.rowMajor_val_three, Shape.rowMajor_val_two]
  show (b.val * 32 + v.val) * 32 + w.val = (32 * b.val + v.val) * 32 + w.val
  omega

/-- The nodes' rows. -/
theorem flatNode_ix (x : (⟨3, ![64, 32, 128]⟩ : Shape).Idx → α) (h : (⟨3, ![64, 32, 128]⟩ : Shape).ShapeCasts ⟨2, ![2048, 128]⟩)
    (b : Fin 64) (v : Fin 32) (i : Fin 128) : shapeCast ⟨2, ![2048, 128]⟩ x h (ix2 (node b v) i) = x (ix3 b v i) := by
  refine shapeCast_apply _ _ _ _ ?_
  rw [Shape.rowMajor_val_three, Shape.rowMajor_val_two]
  show (b.val * 32 + v.val) * 128 + i.val = (32 * b.val + v.val) * 128 + i.val
  omega

/-- The edges' rows: a neighbour's sixteen values one after another. -/
theorem flatEdge_ix (x : (⟨4, ![64, 32, 32, 16]⟩ : Shape).Idx → α) (h : (⟨4, ![64, 32, 32, 16]⟩ : Shape).ShapeCasts ⟨2, ![2048, 512]⟩)
    (b : Fin 64) (v w : Fin 32) (j : Fin 16) : shapeCast ⟨2, ![2048, 512]⟩ x h (ix2 (node b v) (lane w j)) = x (ix4 b v w j) := by
  refine shapeCast_apply _ _ _ _ ?_
  rw [Shape.rowMajor_val_four, Shape.rowMajor_val_two]
  show ((b.val * 32 + v.val) * 32 + w.val) * 16 + j.val = (32 * b.val + v.val) * 512 + (16 * w.val + j.val)
  omega

/-- A bias as a row. -/
theorem flatRow_ix {k : ℕ} (x : (⟨1, ![k]⟩ : Shape).Idx → α) (h : (⟨1, ![k]⟩ : Shape).ShapeCasts ⟨2, ![1, k]⟩) (q : Fin k) :
    shapeCast ⟨2, ![1, k]⟩ x h (ix2 0 q) = x (ix1 q) := by
  refine shapeCast_apply _ _ _ _ ?_
  rw [Shape.rowMajor_val_one, Shape.rowMajor_val_two]
  show q.val = 0 * k + q.val
  omega

/-! ## The two runs -/

/-- Under the precondition the kernel's result is the reference's function of the same arguments. -/
theorem value_eq (m : (ℓ : Loc Cert.KernelIdeal.nD Cert.KernelIdeal.τ Cert.KernelIdeal.sig) → Buf (Elt Ideal) ℓ)
    (hpre : Cert.Pre_KernelIdeal_adjacency_and_finite (hPre_adjacency_and_finite := preFacts) m) (c : Dev Cert.KernelIdeal.nD) :
    Cert.KernelIdeal.Hand.value m c
      = val_main_v123 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17)) := by
  obtain ⟨h0, h1, h6⟩ := hpre c
  funext i
  rw [eq_ix2 i]
  exact result_eq (degrees_of_entries _ fun i => zero_or_one _ (congrFun h0 i)) (flat3_ix _ _) (flatEdge_ix _ _) (flatNode_ix _ _) _ _ _ _ _ _ _ _ _ _ _ _ _ _ _ _ _ _ _
    (flatRow_ix _ _) (flatRow_ix _ _) (flatRow_ix _ _) (flatRow_ix _ _) (fun i => real_of_abs_lt _ (congrFun h1 i))
    (fun i => real_of_abs_lt _ (congrFun h6 i)) (i 0) (i 1)

/-- The kernel over the extended reals and the reference, run from equal arguments, end with equal results. -/
theorem algebraic : Cert.algebraic_KernelIdeal_ReferenceIdeal_pre_adjacency_and_finite (hPre_adjacency_and_finite := preFacts) := by
  intro m g m' g' hpre hag
  refine ⟨fun c => Cert.KernelIdeal.Hand.value m c, ?_, ?_⟩
  · exact (θ_run _ _ _).mono (fun r h c => ⟨h.1 c, h.2.1 c⟩) (θ_run_and (run_value m g) (Cert.KernelIdeal.Hand.frame m g))
  · refine (θ_run _ _ _).mono (fun r h c => ⟨(h c).1.trans ?_, (h c).2⟩) (Cert.ReferenceIdeal.Value.run (F := Ideal) m' g')
    refine (val_main_v123_eq (F := Ideal) (StableHlo.launchContents m' c)).trans (Eq.trans ?_ (value_eq m hpre c).symm)
    obtain ⟨a0, a1, a2, a3, a4, a5, a6, a7, a8, a9, a10, a11, a12, a13, a14, a15, a16, a17⟩ := hag c
    rw [← a0, ← a1, ← a2, ← a3, ← a4, ← a5, ← a6, ← a7, ← a8, ← a9, ← a10, ← a11, ← a12, ← a13, ← a14, ← a15, ← a16, ← a17]

end Cert.Values

end
-- ==== Proof.lean ====
/-
  The proof of `Cert.Claim` for the message-passing kernel (version v07 taken whole) against its reference.

  * The frames of `Kernel` and `KernelIdeal` are `Hand.frame` (Proof/KernelFrame.lean, Proof/KernelIdealFrame.lean): one launch over
    a single point whose body's run is read once, at any float values (Proof/…Body.lean), and stated over named stages
    (Proof/…Stages.lean, Proof/…Reads.lean, Proof/…Run.lean).
  * The frame of `ReferenceIdeal` is its generated run: the program is straight-line and declares no semaphore.
  * `preserves` has no rewritten operation.
  * The equality of values is `Cert.Values.algebraic` (Proof/Values.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.Values
public import Idealize.ShloMosaic.Adequacy
public import Idealize.ShloMosaic.Init

@[expose] public section

noncomputable section

namespace Cert.Proof

open Idealize.ShloMosaic Idealize.SL.Sem

/-- The kernel, word for word, runs to the end, its arguments unchanged and every counter at zero. -/
theorem frame_kernel : Cert.quiescent_Kernel := fun m ρ _ => Cert.Kernel.Hand.frame (F := Bits) m ρ

/-- The same of the kernel read over the extended reals. -/
theorem frame_kernelIdeal : Cert.quiescent_KernelIdeal := fun m ρ _ => Cert.KernelIdeal.Hand.frame (F := Ideal) m ρ

/-- The reference runs to the end, its arguments unchanged; it declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.Values.preFacts,
    frame_kernel, frame_kernelIdeal, fun m ρ _ => frame_kernelIdeal m ρ trivial,
    frame_referenceIdeal, fun m ρ _ => frame_referenceIdeal m ρ trivial, trivial, Cert.Values.algebraic⟩

end Cert.Proof

end
